-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S256x4096 : Shape := ⟨2, ![256, 4096]⟩
abbrev S4096x2048 : Shape := ⟨2, ![4096, 2048]⟩
abbrev S256x2048 : Shape := ⟨2, ![256, 2048]⟩
abbrev S_ : Shape := ⟨0, ![]⟩

class Facts : Prop where
  bitsLt_bf16_f32 : FTy.bits .bf16 < FTy.bits .f32
  bcast_S_S256x2048 : S_.BroadcastsInDim S256x2048 (![] : Fin 0 → Fin S256x2048.rank)
  dot_S256x4096_S4096x2048_S256x2048_1_0_0_1_n_n_wf : DotDims.WF S256x4096 S4096x2048 S256x2048 [1] [0] [0] [1] [] []

variable [Facts]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def fn {F : FTy → Type} [FloatOps F] (main_arg0 : FVec F S256x4096 .bf16) (main_arg1 : FVec F S4096x2048 .bf16) : IVec S256x2048 1 :=
  let main_v0 : FVec F S256x4096 .f32 := (extf .f32 · bitsLt_bf16_f32) main_arg0
  let main_v1 : FVec F S4096x2048 .f32 := (extf .f32 · bitsLt_bf16_f32) main_arg1
  let main_v2 : FVec F S256x2048 .f32 := (fun l r => Host.dotGeneral dot_S256x4096_S4096x2048_S256x2048_1_0_0_1_n_n none l r) main_v0 main_v1
  let main_v3 : FVec F S256x2048 .f32 := Host.absf main_v2
  let main_cst : FVec F S_ .f32 := constant S_ .f32 0x42700000#32
  let main_v4 : FVec F S256x2048 .f32 := broadcastInDim S256x2048 ![] bcast_S_S256x2048 main_cst
  let main_v5 : IVec S256x2048 1 := cmpf .ole main_v3 main_v4
  main_v5
-- ==== Pre_within_clip_ReferenceIdeal.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S4096x2048 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S4096x2048 .f32 := Host.absf main_v2
  let main_cst : FVec F S_ .f32 := constant S_ .f32 0x42700000#32
  let main_v4 : FVec F S4096x2048 .f32 := broadcastInDim S4096x2048 ![] bcast_S_S4096x2048 main_cst
  let main_v5 : IVec S4096x2048 1 := cmpf .ole main_v3 main_v4
  main_v5
-- ==== Kernel.lean ====
abbrev S256x4096 : Shape := ⟨2, ![256, 4096]⟩
abbrev S4096x2048 : Shape := ⟨2, ![4096, 2048]⟩
abbrev S4096x128 : Shape := ⟨2, ![4096, 128]⟩
abbrev S256x2048 : Shape := ⟨2, ![256, 2048]⟩
abbrev S16 : Shape := ⟨1, ![16]⟩
abbrev S_ : Shape := ⟨0, ![]⟩
abbrev S256x128 : Shape := ⟨2, ![256, 128]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .bf16⟩
  | .hbm, ⟨1, _⟩ => ⟨S4096x2048, .bf16⟩
  | .hbm, ⟨2, _⟩ => ⟨S4096x128, .f32⟩
  | .local _ .vmem, ⟨0, _⟩ => ⟨S256x4096, .bf16⟩
  | .local _ .vmem, ⟨1, _⟩ => ⟨S4096x2048, .bf16⟩
  | .local _ .vmem, ⟨2, _⟩ => ⟨S4096x128, .f32⟩
  | .local _ .vmem, ⟨3, _⟩ => ⟨S256x2048, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let c0_141 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v209 : BitVec 32 := Scalar.muli v2 c128_i32
  let v210 : Index := Scalar.indexCast v209
  ![0, v210.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v212 : BitVec 32 := Scalar.muli v2 c256_i32
  let v213 : Index := Scalar.indexCast v212
  let c0_142 : Index := 0#32
  ![v213.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_151 : BitVec 32 := 256#32
  let v227 : BitVec 32 := Scalar.muli v2 c256_i32_151
  let c0_i32_156 : BitVec 32 := 0#32
  ![v227.toNat, 0]
def k0_off4 (d0 : Dev nD) (c1_i32_143 : BitVec 32) : Fin 2 → Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v215 : BitVec 32 := Scalar.addi v2 c1_i32_143
  let c16_i32_144 : BitVec 32 := 16#32
  let c0_i32_145 : BitVec 32 := 0#32
  let v216 : BitVec 1 := Scalar.cmpi .eq c16_i32_144 c0_i32_145
  let c1_i32_146 : BitVec 32 := 1#32
  let v217 : BitVec 32 := Scalar.select v216 c1_i32_146 c16_i32_144
  let v218 : BitVec 32 := Scalar.remsi v215 v217
  let c0_i32_148 : BitVec 32 := 0#32
  let v220 : BitVec 1 := Scalar.cmpi .slt v218 c0_i32_148
  let c0_i32_149 : BitVec 32 := 0#32
  let v221 : BitVec 1 := Scalar.cmpi .slt v217 c0_i32_149
  let v222 : BitVec 1 := Scalar.xori v220 v221
  let c0_i32_147 : BitVec 32 := 0#32
  let v219 : BitVec 1 := Scalar.cmpi .ne v218 c0_i32_147
  let v223 : BitVec 1 := Scalar.andi v222 v219
  let v224 : BitVec 32 := Scalar.addi v218 v217
  let v225 : BitVec 32 := Scalar.select v223 v224 v218
  let c128_i32_150 : BitVec 32 := 128#32
  let v226 : BitVec 32 := Scalar.muli v225 c128_i32_150
  ![0, v226.toNat]
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v215 : BitVec 32 := Scalar.addi v2 c1_i32_143
  let c16_i32_144 : BitVec 32 := 16#32
  let c0_i32_145 : BitVec 32 := 0#32
  let v216 : BitVec 1 := Scalar.cmpi .eq c16_i32_144 c0_i32_145
  let c1_i32_146 : BitVec 32 := 1#32
  let v217 : BitVec 32 := Scalar.select v216 c1_i32_146 c16_i32_144
  let v218 : BitVec 32 := Scalar.remsi v215 v217
  let c0_i32_148 : BitVec 32 := 0#32
  let v220 : BitVec 1 := Scalar.cmpi .slt v218 c0_i32_148
  let c0_i32_149 : BitVec 32 := 0#32
  let v221 : BitVec 1 := Scalar.cmpi .slt v217 c0_i32_149
  let v222 : BitVec 1 := Scalar.xori v220 v221
  let c0_i32_147 : BitVec 32 := 0#32
  let v219 : BitVec 1 := Scalar.cmpi .ne v218 c0_i32_147
  let v223 : BitVec 1 := Scalar.andi v222 v219
  let v224 : BitVec 32 := Scalar.addi v218 v217
  let v225 : BitVec 32 := Scalar.select v223 v224 v218
  let c1_i32_154 : BitVec 32 := 1#32
  let v228 : BitVec 32 := Scalar.muli v225 c1_i32_154
  let v229 : BitVec 32 := Scalar.addi c0_i32_155 v228
  v229.toNat
def k0_dev17 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_158 : BitVec 32 := 2#32
  let v236 : BitVec 32 := Scalar.addi v2 c2_i32_158
  let c16_i32_159 : BitVec 32 := 16#32
  let c0_i32_160 : BitVec 32 := 0#32
  let v237 : BitVec 1 := Scalar.cmpi .eq c16_i32_159 c0_i32_160
  let c1_i32_161 : BitVec 32 := 1#32
  let v238 : BitVec 32 := Scalar.select v237 c1_i32_161 c16_i32_159
  let v239 : BitVec 32 := Scalar.remsi v236 v238
  let c0_i32_163 : BitVec 32 := 0#32
  let v241 : BitVec 1 := Scalar.cmpi .slt v239 c0_i32_163
  let c0_i32_164 : BitVec 32 := 0#32
  let v242 : BitVec 1 := Scalar.cmpi .slt v238 c0_i32_164
  let v243 : BitVec 1 := Scalar.xori v241 v242
  let c0_i32_162 : BitVec 32 := 0#32
  let v240 : BitVec 1 := Scalar.cmpi .ne v239 c0_i32_162
  let v244 : BitVec 1 := Scalar.andi v243 v240
  let v245 : BitVec 32 := Scalar.addi v239 v238
  let v246 : BitVec 32 := Scalar.select v244 v245 v239
  let c1_i32_169 : BitVec 32 := 1#32
  let v249 : BitVec 32 := Scalar.muli v246 c1_i32_169
  let v250 : BitVec 32 := Scalar.addi c0_i32_170 v249
  v250.toNat
def k0_dev18 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_173 : BitVec 32 := 3#32
  let v257 : BitVec 32 := Scalar.addi v2 c3_i32_173
  let c16_i32_174 : BitVec 32 := 16#32
  let c0_i32_175 : BitVec 32 := 0#32
  let v258 : BitVec 1 := Scalar.cmpi .eq c16_i32_174 c0_i32_175
  let c1_i32_176 : BitVec 32 := 1#32
  let v259 : BitVec 32 := Scalar.select v258 c1_i32_176 c16_i32_174
  let v260 : BitVec 32 := Scalar.remsi v257 v259
  let c0_i32_178 : BitVec 32 := 0#32
  let v262 : BitVec 1 := Scalar.cmpi .slt v260 c0_i32_178
  let c0_i32_179 : BitVec 32 := 0#32
  let v263 : BitVec 1 := Scalar.cmpi .slt v259 c0_i32_179
  let v264 : BitVec 1 := Scalar.xori v262 v263
  let c0_i32_177 : BitVec 32 := 0#32
  let v261 : BitVec 1 := Scalar.cmpi .ne v260 c0_i32_177
  let v265 : BitVec 1 := Scalar.andi v264 v261
  let v266 : BitVec 32 := Scalar.addi v260 v259
  let v267 : BitVec 32 := Scalar.select v265 v266 v260
  let c1_i32_184 : BitVec 32 := 1#32
  let v270 : BitVec 32 := Scalar.muli v267 c1_i32_184
  let v271 : BitVec 32 := Scalar.addi c0_i32_185 v270
  v271.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_188 : BitVec 32 := 4#32
  let v278 : BitVec 32 := Scalar.addi v2 c4_i32_188
  let c16_i32_189 : BitVec 32 := 16#32
  let c0_i32_190 : BitVec 32 := 0#32
  let v279 : BitVec 1 := Scalar.cmpi .eq c16_i32_189 c0_i32_190
  let c1_i32_191 : BitVec 32 := 1#32
  let v280 : BitVec 32 := Scalar.select v279 c1_i32_191 c16_i32_189
  let v281 : BitVec 32 := Scalar.remsi v278 v280
  let c0_i32_193 : BitVec 32 := 0#32
  let v283 : BitVec 1 := Scalar.cmpi .slt v281 c0_i32_193
  let c0_i32_194 : BitVec 32 := 0#32
  let v284 : BitVec 1 := Scalar.cmpi .slt v280 c0_i32_194
  let v285 : BitVec 1 := Scalar.xori v283 v284
  let c0_i32_192 : BitVec 32 := 0#32
  let v282 : BitVec 1 := Scalar.cmpi .ne v281 c0_i32_192
  let v286 : BitVec 1 := Scalar.andi v285 v282
  let v287 : BitVec 32 := Scalar.addi v281 v280
  let v288 : BitVec 32 := Scalar.select v286 v287 v281
  let c1_i32_199 : BitVec 32 := 1#32
  let v291 : BitVec 32 := Scalar.muli v288 c1_i32_199
  let v292 : BitVec 32 := Scalar.addi c0_i32_200 v291
  v292.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_203 : BitVec 32 := 5#32
  let v299 : BitVec 32 := Scalar.addi v2 c5_i32_203
  let c16_i32_204 : BitVec 32 := 16#32
  let c0_i32_205 : BitVec 32 := 0#32
  let v300 : BitVec 1 := Scalar.cmpi .eq c16_i32_204 c0_i32_205
  let c1_i32_206 : BitVec 32 := 1#32
  let v301 : BitVec 32 := Scalar.select v300 c1_i32_206 c16_i32_204
  let v302 : BitVec 32 := Scalar.remsi v299 v301
  let c0_i32_208 : BitVec 32 := 0#32
  let v304 : BitVec 1 := Scalar.cmpi .slt v302 c0_i32_208
  let c0_i32_209 : BitVec 32 := 0#32
  let v305 : BitVec 1 := Scalar.cmpi .slt v301 c0_i32_209
  let v306 : BitVec 1 := Scalar.xori v304 v305
  let c0_i32_207 : BitVec 32 := 0#32
  let v303 : BitVec 1 := Scalar.cmpi .ne v302 c0_i32_207
  let v307 : BitVec 1 := Scalar.andi v306 v303
  let v308 : BitVec 32 := Scalar.addi v302 v301
  let v309 : BitVec 32 := Scalar.select v307 v308 v302
  let c1_i32_214 : BitVec 32 := 1#32
  let v312 : BitVec 32 := Scalar.muli v309 c1_i32_214
  let v313 : BitVec 32 := Scalar.addi c0_i32_215 v312
  v313.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_218 : BitVec 32 := 6#32
  let v320 : BitVec 32 := Scalar.addi v2 c6_i32_218
  let c16_i32_219 : BitVec 32 := 16#32
  let c0_i32_220 : BitVec 32 := 0#32
  let v321 : BitVec 1 := Scalar.cmpi .eq c16_i32_219 c0_i32_220
  let c1_i32_221 : BitVec 32 := 1#32
  let v322 : BitVec 32 := Scalar.select v321 c1_i32_221 c16_i32_219
  let v323 : BitVec 32 := Scalar.remsi v320 v322
  let c0_i32_223 : BitVec 32 := 0#32
  let v325 : BitVec 1 := Scalar.cmpi .slt v323 c0_i32_223
  let c0_i32_224 : BitVec 32 := 0#32
  let v326 : BitVec 1 := Scalar.cmpi .slt v322 c0_i32_224
  let v327 : BitVec 1 := Scalar.xori v325 v326
  let c0_i32_222 : BitVec 32 := 0#32
  let v324 : BitVec 1 := Scalar.cmpi .ne v323 c0_i32_222
  let v328 : BitVec 1 := Scalar.andi v327 v324
  let v329 : BitVec 32 := Scalar.addi v323 v322
  let v330 : BitVec 32 := Scalar.select v328 v329 v323
  let c1_i32_229 : BitVec 32 := 1#32
  let v333 : BitVec 32 := Scalar.muli v330 c1_i32_229
  let v334 : BitVec 32 := Scalar.addi c0_i32_230 v333
  v334.toNat
def k0_dev22 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_233 : BitVec 32 := 7#32
  let v341 : BitVec 32 := Scalar.addi v2 c7_i32_233
  let c16_i32_234 : BitVec 32 := 16#32
  let c0_i32_235 : BitVec 32 := 0#32
  let v342 : BitVec 1 := Scalar.cmpi .eq c16_i32_234 c0_i32_235
  let c1_i32_236 : BitVec 32 := 1#32
  let v343 : BitVec 32 := Scalar.select v342 c1_i32_236 c16_i32_234
  let v344 : BitVec 32 := Scalar.remsi v341 v343
  let c0_i32_238 : BitVec 32 := 0#32
  let v346 : BitVec 1 := Scalar.cmpi .slt v344 c0_i32_238
  let c0_i32_239 : BitVec 32 := 0#32
  let v347 : BitVec 1 := Scalar.cmpi .slt v343 c0_i32_239
  let v348 : BitVec 1 := Scalar.xori v346 v347
  let c0_i32_237 : BitVec 32 := 0#32
  let v345 : BitVec 1 := Scalar.cmpi .ne v344 c0_i32_237
  let v349 : BitVec 1 := Scalar.andi v348 v345
  let v350 : BitVec 32 := Scalar.addi v344 v343
  let v351 : BitVec 32 := Scalar.select v349 v350 v344
  let c1_i32_244 : BitVec 32 := 1#32
  let v354 : BitVec 32 := Scalar.muli v351 c1_i32_244
  let v355 : BitVec 32 := Scalar.addi c0_i32_245 v354
  v355.toNat
def k0_dev23 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_248 : BitVec 32 := 8#32
  let v362 : BitVec 32 := Scalar.addi v2 c8_i32_248
  let c16_i32_249 : BitVec 32 := 16#32
  let c0_i32_250 : BitVec 32 := 0#32
  let v363 : BitVec 1 := Scalar.cmpi .eq c16_i32_249 c0_i32_250
  let c1_i32_251 : BitVec 32 := 1#32
  let v364 : BitVec 32 := Scalar.select v363 c1_i32_251 c16_i32_249
  let v365 : BitVec 32 := Scalar.remsi v362 v364
  let c0_i32_253 : BitVec 32 := 0#32
  let v367 : BitVec 1 := Scalar.cmpi .slt v365 c0_i32_253
  let c0_i32_254 : BitVec 32 := 0#32
  let v368 : BitVec 1 := Scalar.cmpi .slt v364 c0_i32_254
  let v369 : BitVec 1 := Scalar.xori v367 v368
  let c0_i32_252 : BitVec 32 := 0#32
  let v366 : BitVec 1 := Scalar.cmpi .ne v365 c0_i32_252
  let v370 : BitVec 1 := Scalar.andi v369 v366
  let v371 : BitVec 32 := Scalar.addi v365 v364
  let v372 : BitVec 32 := Scalar.select v370 v371 v365
  let c1_i32_259 : BitVec 32 := 1#32
  let v375 : BitVec 32 := Scalar.muli v372 c1_i32_259
  let v376 : BitVec 32 := Scalar.addi c0_i32_260 v375
  v376.toNat
def k0_dev24 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_263 : BitVec 32 := 9#32
  let v383 : BitVec 32 := Scalar.addi v2 c9_i32_263
  let c16_i32_264 : BitVec 32 := 16#32
  let c0_i32_265 : BitVec 32 := 0#32
  let v384 : BitVec 1 := Scalar.cmpi .eq c16_i32_264 c0_i32_265
  let c1_i32_266 : BitVec 32 := 1#32
  let v385 : BitVec 32 := Scalar.select v384 c1_i32_266 c16_i32_264
  let v386 : BitVec 32 := Scalar.remsi v383 v385
  let c0_i32_268 : BitVec 32 := 0#32
  let v388 : BitVec 1 := Scalar.cmpi .slt v386 c0_i32_268
  let c0_i32_269 : BitVec 32 := 0#32
  let v389 : BitVec 1 := Scalar.cmpi .slt v385 c0_i32_269
  let v390 : BitVec 1 := Scalar.xori v388 v389
  let c0_i32_267 : BitVec 32 := 0#32
  let v387 : BitVec 1 := Scalar.cmpi .ne v386 c0_i32_267
  let v391 : BitVec 1 := Scalar.andi v390 v387
  let v392 : BitVec 32 := Scalar.addi v386 v385
  let v393 : BitVec 32 := Scalar.select v391 v392 v386
  let c1_i32_274 : BitVec 32 := 1#32
  let v396 : BitVec 32 := Scalar.muli v393 c1_i32_274
  let v397 : BitVec 32 := Scalar.addi c0_i32_275 v396
  v397.toNat
def k0_dev25 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_278 : BitVec 32 := 10#32
  let v404 : BitVec 32 := Scalar.addi v2 c10_i32_278
  let c16_i32_279 : BitVec 32 := 16#32
  let c0_i32_280 : BitVec 32 := 0#32
  let v405 : BitVec 1 := Scalar.cmpi .eq c16_i32_279 c0_i32_280
  let c1_i32_281 : BitVec 32 := 1#32
  let v406 : BitVec 32 := Scalar.select v405 c1_i32_281 c16_i32_279
  let v407 : BitVec 32 := Scalar.remsi v404 v406
  let c0_i32_283 : BitVec 32 := 0#32
  let v409 : BitVec 1 := Scalar.cmpi .slt v407 c0_i32_283
  let c0_i32_284 : BitVec 32 := 0#32
  let v410 : BitVec 1 := Scalar.cmpi .slt v406 c0_i32_284
  let v411 : BitVec 1 := Scalar.xori v409 v410
  let c0_i32_282 : BitVec 32 := 0#32
  let v408 : BitVec 1 := Scalar.cmpi .ne v407 c0_i32_282
  let v412 : BitVec 1 := Scalar.andi v411 v408
  let v413 : BitVec 32 := Scalar.addi v407 v406
  let v414 : BitVec 32 := Scalar.select v412 v413 v407
  let c1_i32_289 : BitVec 32 := 1#32
  let v417 : BitVec 32 := Scalar.muli v414 c1_i32_289
  let v418 : BitVec 32 := Scalar.addi c0_i32_290 v417
  v418.toNat
def k0_dev26 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_293 : BitVec 32 := 11#32
  let v425 : BitVec 32 := Scalar.addi v2 c11_i32_293
  let c16_i32_294 : BitVec 32 := 16#32
  let c0_i32_295 : BitVec 32 := 0#32
  let v426 : BitVec 1 := Scalar.cmpi .eq c16_i32_294 c0_i32_295
  let c1_i32_296 : BitVec 32 := 1#32
  let v427 : BitVec 32 := Scalar.select v426 c1_i32_296 c16_i32_294
  let v428 : BitVec 32 := Scalar.remsi v425 v427
  let c0_i32_298 : BitVec 32 := 0#32
  let v430 : BitVec 1 := Scalar.cmpi .slt v428 c0_i32_298
  let c0_i32_299 : BitVec 32 := 0#32
  let v431 : BitVec 1 := Scalar.cmpi .slt v427 c0_i32_299
  let v432 : BitVec 1 := Scalar.xori v430 v431
  let c0_i32_297 : BitVec 32 := 0#32
  let v429 : BitVec 1 := Scalar.cmpi .ne v428 c0_i32_297
  let v433 : BitVec 1 := Scalar.andi v432 v429
  let v434 : BitVec 32 := Scalar.addi v428 v427
  let v435 : BitVec 32 := Scalar.select v433 v434 v428
  let c1_i32_304 : BitVec 32 := 1#32
  let v438 : BitVec 32 := Scalar.muli v435 c1_i32_304
  let v439 : BitVec 32 := Scalar.addi c0_i32_305 v438
  v439.toNat
def k0_dev27 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_308 : BitVec 32 := 12#32
  let v446 : BitVec 32 := Scalar.addi v2 c12_i32_308
  let c16_i32_309 : BitVec 32 := 16#32
  let c0_i32_310 : BitVec 32 := 0#32
  let v447 : BitVec 1 := Scalar.cmpi .eq c16_i32_309 c0_i32_310
  let c1_i32_311 : BitVec 32 := 1#32
  let v448 : BitVec 32 := Scalar.select v447 c1_i32_311 c16_i32_309
  let v449 : BitVec 32 := Scalar.remsi v446 v448
  let c0_i32_313 : BitVec 32 := 0#32
  let v451 : BitVec 1 := Scalar.cmpi .slt v449 c0_i32_313
  let c0_i32_314 : BitVec 32 := 0#32
  let v452 : BitVec 1 := Scalar.cmpi .slt v448 c0_i32_314
  let v453 : BitVec 1 := Scalar.xori v451 v452
  let c0_i32_312 : BitVec 32 := 0#32
  let v450 : BitVec 1 := Scalar.cmpi .ne v449 c0_i32_312
  let v454 : BitVec 1 := Scalar.andi v453 v450
  let v455 : BitVec 32 := Scalar.addi v449 v448
  let v456 : BitVec 32 := Scalar.select v454 v455 v449
  let c1_i32_319 : BitVec 32 := 1#32
  let v459 : BitVec 32 := Scalar.muli v456 c1_i32_319
  let v460 : BitVec 32 := Scalar.addi c0_i32_320 v459
  v460.toNat
def k0_dev28 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_323 : BitVec 32 := 13#32
  let v467 : BitVec 32 := Scalar.addi v2 c13_i32_323
  let c16_i32_324 : BitVec 32 := 16#32
  let c0_i32_325 : BitVec 32 := 0#32
  let v468 : BitVec 1 := Scalar.cmpi .eq c16_i32_324 c0_i32_325
  let c1_i32_326 : BitVec 32 := 1#32
  let v469 : BitVec 32 := Scalar.select v468 c1_i32_326 c16_i32_324
  let v470 : BitVec 32 := Scalar.remsi v467 v469
  let c0_i32_328 : BitVec 32 := 0#32
  let v472 : BitVec 1 := Scalar.cmpi .slt v470 c0_i32_328
  let c0_i32_329 : BitVec 32 := 0#32
  let v473 : BitVec 1 := Scalar.cmpi .slt v469 c0_i32_329
  let v474 : BitVec 1 := Scalar.xori v472 v473
  let c0_i32_327 : BitVec 32 := 0#32
  let v471 : BitVec 1 := Scalar.cmpi .ne v470 c0_i32_327
  let v475 : BitVec 1 := Scalar.andi v474 v471
  let v476 : BitVec 32 := Scalar.addi v470 v469
  let v477 : BitVec 32 := Scalar.select v475 v476 v470
  let c1_i32_334 : BitVec 32 := 1#32
  let v480 : BitVec 32 := Scalar.muli v477 c1_i32_334
  let v481 : BitVec 32 := Scalar.addi c0_i32_335 v480
  v481.toNat
def k0_dev29 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_338 : BitVec 32 := 14#32
  let v488 : BitVec 32 := Scalar.addi v2 c14_i32_338
  let c16_i32_339 : BitVec 32 := 16#32
  let c0_i32_340 : BitVec 32 := 0#32
  let v489 : BitVec 1 := Scalar.cmpi .eq c16_i32_339 c0_i32_340
  let c1_i32_341 : BitVec 32 := 1#32
  let v490 : BitVec 32 := Scalar.select v489 c1_i32_341 c16_i32_339
  let v491 : BitVec 32 := Scalar.remsi v488 v490
  let c0_i32_343 : BitVec 32 := 0#32
  let v493 : BitVec 1 := Scalar.cmpi .slt v491 c0_i32_343
  let c0_i32_344 : BitVec 32 := 0#32
  let v494 : BitVec 1 := Scalar.cmpi .slt v490 c0_i32_344
  let v495 : BitVec 1 := Scalar.xori v493 v494
  let c0_i32_342 : BitVec 32 := 0#32
  let v492 : BitVec 1 := Scalar.cmpi .ne v491 c0_i32_342
  let v496 : BitVec 1 := Scalar.andi v495 v492
  let v497 : BitVec 32 := Scalar.addi v491 v490
  let v498 : BitVec 32 := Scalar.select v496 v497 v491
  let c1_i32_349 : BitVec 32 := 1#32
  let v501 : BitVec 32 := Scalar.muli v498 c1_i32_349
  let v502 : BitVec 32 := Scalar.addi c0_i32_350 v501
  v502.toNat
def k0_dev30 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_353 : BitVec 32 := 15#32
  let v509 : BitVec 32 := Scalar.addi v2 c15_i32_353
  let c16_i32_354 : BitVec 32 := 16#32
  let c0_i32_355 : BitVec 32 := 0#32
  let v510 : BitVec 1 := Scalar.cmpi .eq c16_i32_354 c0_i32_355
  let c1_i32_356 : BitVec 32 := 1#32
  let v511 : BitVec 32 := Scalar.select v510 c1_i32_356 c16_i32_354
  let v512 : BitVec 32 := Scalar.remsi v509 v511
  let c0_i32_358 : BitVec 32 := 0#32
  let v514 : BitVec 1 := Scalar.cmpi .slt v512 c0_i32_358
  let c0_i32_359 : BitVec 32 := 0#32
  let v515 : BitVec 1 := Scalar.cmpi .slt v511 c0_i32_359
  let v516 : BitVec 1 := Scalar.xori v514 v515
  let c0_i32_357 : BitVec 32 := 0#32
  let v513 : BitVec 1 := Scalar.cmpi .ne v512 c0_i32_357
  let v517 : BitVec 1 := Scalar.andi v516 v513
  let v518 : BitVec 32 := Scalar.addi v512 v511
  let v519 : BitVec 32 := Scalar.select v517 v518 v512
  let c1_i32_364 : BitVec 32 := 1#32
  let v522 : BitVec 32 := Scalar.muli v519 c1_i32_364
  let v523 : BitVec 32 := Scalar.addi c0_i32_365 v522
  v523.toNat
def k0_off5 (d0 : Dev nD) (c1_i32_368 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.subi v2 c1_i32_368
  let c16_i32_369 : BitVec 32 := 16#32
  let c0_i32_370 : BitVec 32 := 0#32
  let v531 : BitVec 1 := Scalar.cmpi .eq c16_i32_369 c0_i32_370
  let c1_i32_371 : BitVec 32 := 1#32
  let v532 : BitVec 32 := Scalar.select v531 c1_i32_371 c16_i32_369
  let v533 : BitVec 32 := Scalar.remsi v530 v532
  let c0_i32_373 : BitVec 32 := 0#32
  let v535 : BitVec 1 := Scalar.cmpi .slt v533 c0_i32_373
  let c0_i32_374 : BitVec 32 := 0#32
  let v536 : BitVec 1 := Scalar.cmpi .slt v532 c0_i32_374
  let v537 : BitVec 1 := Scalar.xori v535 v536
  let c0_i32_372 : BitVec 32 := 0#32
  let v534 : BitVec 1 := Scalar.cmpi .ne v533 c0_i32_372
  let v538 : BitVec 1 := Scalar.andi v537 v534
  let v539 : BitVec 32 := Scalar.addi v533 v532
  let v540 : BitVec 32 := Scalar.select v538 v539 v533
  let c256_i32_376 : BitVec 32 := 256#32
  let v542 : BitVec 32 := Scalar.muli v540 c256_i32_376
  let c0_i32_381 : BitVec 32 := 0#32
  ![v542.toNat, 0]
def k0_off6 (d0 : Dev nD) : Fin 2 → Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_375 : BitVec 32 := 128#32
  let v541 : BitVec 32 := Scalar.muli v2 c128_i32_375
  ![0, v541.toNat]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Flow.lean ====
/-
The kernel's body as a short program over the fifteen offsets of the mesh.

The mesh has sixteen devices. Device `c` sends, for every offset `d` in `1 … 15`, a block to the device
`d` places after it and receives one from the device `d` places before it. This module names those two devices,
the row blocks of the output buffer and the column blocks of the scratch buffer, and restates the printed body as
five loops over the list of offsets with the straight-line product between them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-! ## The mesh -/

set_option backward.proofsInPublic true in
/-- The device `d + 1` places after `c` on the ring of sixteen: the one `c` sends its block number `d` to. -/
def peer (c : Dev nD) (d : Fin 15) : Dev nD := ⟨(c.val + (d.val + 1)) % 16, Nat.mod_lt _ (by decide)⟩
set_option backward.proofsInPublic true in
/-- The device `d + 1` places before `c`: the one whose block number `d` arrives at `c`. -/
def orig (c : Dev nD) (d : Fin 15) : Dev nD := ⟨(c.val + (15 - d.val)) % 16, Nat.mod_lt _ (by decide)⟩

theorem orig_peer : ∀ (c : Dev nD) (d : Fin 15), orig (peer c d) d = c := by decide +kernel
theorem peer_orig : ∀ (c : Dev nD) (d : Fin 15), peer (orig c d) d = c := by decide +kernel
theorem peer_ne : ∀ (c : Dev nD) (d : Fin 15), peer c d ≠ c := by decide +kernel
theorem orig_ne : ∀ (c : Dev nD) (d : Fin 15), orig c d ≠ c := by decide +kernel
theorem peer_inj : ∀ (c : Dev nD) (d e : Fin 15), peer c d = peer c e → d = e := by decide +kernel
theorem orig_inj : ∀ (c : Dev nD) (d e : Fin 15), orig c d = orig c e → d = e := by decide +kernel

/-- The destination of the entry signal number `d`, as the body computes it. -/
def sigDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The destination of the transfer number `d`, as the body computes it. -/
def xferDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

theorem sigDev_eq : ∀ (c : Dev nD) (d : Fin 15), sigDev c d = peer c d := by decide +kernel
theorem xferDev_eq : ∀ (c : Dev nD) (d : Fin 15), xferDev c d = peer c d := by decide +kernel

theorem off4_eq : ∀ (c : Dev nD) (d : Fin 15), k0_off4 c (BitVec.ofNat 32 (1 + d.val)) = ![0, 128 * (peer c d).val] := by decide +kernel
theorem off5_eq : ∀ (c : Dev nD) (d : Fin 15), k0_off5 c (BitVec.ofNat 32 (1 + d.val)) = ![256 * (orig c d).val, 0] := by decide +kernel

/-! ## Buffers and semaphores -/

abbrev xM : Memref sig .tc .vmem S256x4096 .bf16 := Memref.whole cc0_stg0_0
abbrev wM : Memref sig .tc .vmem S4096x2048 .bf16 := Memref.whole cc0_stg1_0
abbrev oM : Memref sig .tc .vmem S4096x128 .f32 := Memref.whole cc0_stg2_0
abbrev yM : Memref sig .tc .vmem S256x2048 .f32 := Memref.whole cc0_scratch0

/-- The barrier semaphore every device signals its peers on. -/
abbrev barS : Sem sig := (SemArray.scalar (sig.barrier 0 rfl) : Sems sig S_).sem

theorem inb_sem (s : Fin 16) : ∀ a, (![s.val] : Fin 1 → Nat) a + S1.size a ≤ S16.size a := by
  intro a; fin_cases a; exact s.isLt

/-- Entry `s` of the kernel's array of send semaphores, -/
def sendQ (s : Fin 16) : DmaSem sig := ((cc0_scratch1.slice (Rect.unit (s := S16) ![s.val] S1.size (inb_sem s))).squeeze S_ squeezes_S1_S_).sem
/-- and of its array of receive semaphores. -/
def recvQ (s : Fin 16) : DmaSem sig := ((cc0_scratch2.slice (Rect.unit (s := S16) ![s.val] S1.size (inb_sem s))).squeeze S_ squeezes_S1_S_).sem

theorem sendQ_val : ∀ s : Fin 16, (sendQ s).val = 3 + s.val := by decide +kernel
theorem recvQ_val : ∀ s : Fin 16, (recvQ s).val = 19 + s.val := by decide +kernel

theorem inb_row (e : Dev nD) : ∀ a, (![256 * e.val, 0] : Fin 2 → Nat) a + S256x128.size a ≤ S4096x128.size a := by revert e; decide +kernel
theorem inb_col (e : Dev nD) : ∀ a, (![0, 128 * e.val] : Fin 2 → Nat) a + S256x128.size a ≤ S256x2048.size a := by revert e; decide +kernel

/-- Rows `256 e …` of the output buffer: where device `e`'s block lands; -/
def rowR (e : Dev nD) : Rect S4096x128 := Rect.unit (s := S4096x128) ![256 * e.val, 0] S256x128.size (inb_row e)
/-- columns `128 e …` of the scratch buffer: the block bound for device `e`. -/
def colR (e : Dev nD) : Rect S256x2048 := Rect.unit (s := S256x2048) ![0, 128 * e.val] S256x128.size (inb_col e)

abbrev rowM (e : Dev nD) : Memref sig .tc .vmem S256x128 .f32 := oM.slice (rowR e) (fun _ => rfl)
abbrev colM (e : Dev nD) : Memref sig .tc .vmem S256x128 .f32 := yM.slice (colR e) (fun _ => rfl)

/-! ## The body -/

/-- Programs of the kernel's body. -/
abbrev Body (F : FTy → Type) : Type 1 := Prog (TpuEff nD τ sig (Elt F) Λ₀ .tc) PUnit

/-- The fifteen offsets, in the order the body takes them. -/
def offsets : List (Fin 15) := [0, 1, 2, 3, 4, 5, 6, 7, 8, 9, 10, 11, 12, 13, 14]

/-- One operation for every offset of a list, then `k`. -/
def each (op : Fin 15 → TpuEff nD τ sig (Elt F) Λ₀ .tc PUnit) (l : List (Fin 15)) (k : Body F) : Body F :=
  l.foldr (fun d p => .op (op d) fun _ => p) k

/-- One unit to the barrier semaphore of device `n`. -/
def signalTo (n : Dev nD) : TpuEff nD τ sig (Elt F) Λ₀ .tc PUnit := .semSignal (n, .tc) barS (1#32).toInt
/-- The transfer of `src` into `dst` of device `n`, over entry `s` of the two arrays of semaphores. -/
def sendTo (n : Dev nD) (src dst : Memref sig .tc .vmem S256x128 .f32) (s : Fin 16) (hsc : dst.view.ref.isScScratch = false) :
    TpuEff nD τ sig (Elt F) Λ₀ .tc PUnit :=
  .enqueueDma src (.remote (Dev.tc n) dst (.dma (sendQ s)) hsc) (.dma (recvQ s)) (View.wordExact_bits rfl) (View.wordExact_bits rfl) ⟨⟨rfl, Or.inl rfl⟩, trivial⟩
/-- The wait on the DMA semaphore `q` for the bytes of `dst`. -/
def waitFor (q : DmaSem sig) (src dst : Memref sig .tc .vmem S256x128 .f32) : TpuEff nD τ sig (Elt F) Λ₀ .tc PUnit :=
  .waitDma2 q src dst (View.wordExact_bits rfl) (View.wordExact_bits rfl)

abbrev xAll : Rect S256x4096 := Rect.unit (s := S256x4096) ![0, 0] S256x4096.size inb_S256x4096_S256x4096_0_0
abbrev wAll : Rect S4096x2048 := Rect.unit (s := S4096x2048) ![0, 0] S4096x2048.size inb_S4096x2048_S4096x2048_0_0
abbrev yAll : Rect S256x2048 := Rect.unit (s := S256x2048) ![0, 0] S256x2048.size inb_S256x2048_S256x2048_0_0

/-- The body on device `c`, with the offsets, devices and blocks as the printed text computes them. -/
def rawFlow (c : Dev nD) : Body F :=
  each (fun d => signalTo (sigDev c d)) offsets <|
  .op (.semWait barS (15#32).toInt) fun _ =>
  .op (.load xM xAll.toLoadRect (View.loadsAt_vmem h_S256x4096)) fun x =>
  .op (.load wM wAll.toLoadRect (View.loadsAt_vmem h_S4096x2048)) fun w =>
  .op (.load yM yAll.toLoadRect (View.loadsAt_vmem h_S256x2048)) fun _ =>
  .op (.store yM yAll (k0_pay1 x w) Finset.univ (View.stores_vmem_bits_univ h_S256x2048 rfl) (.inl rfl)) fun _ =>
  .op (.load yM (Rect.unit (s := S256x2048) (k0_off1 c) S256x128.size (k0_off1_inb c)).toLoadRect (View.loadsAt_vmem h_S256x128)) fun v =>
  .op (.load oM (Rect.unit (s := S4096x128) (k0_off2 c) S256x128.size (k0_off2_inb c)).toLoadRect (View.loadsAt_vmem h_S256x128)) fun _ =>
  .op (.store oM (Rect.unit (s := S4096x128) (k0_off2 c) S256x128.size (k0_off2_inb c)) v Finset.univ (View.stores_vmem_bits_univ h_S256x128 rfl) (.inl rfl)) fun _ =>
  each (fun d => sendTo (xferDev c d)
      (yM.slice (Rect.unit (s := S256x2048) (k0_off4 c (BitVec.ofNat 32 (1 + d.val))) S256x128.size (k0_off4_inb c d)) (fun _ => rfl))
      (oM.slice (Rect.unit (s := S4096x128) (k0_off3 c) S256x128.size (k0_off3_inb c)) (fun _ => rfl)) d.succ rfl) offsets <|
  each (fun d => waitFor (recvQ d.succ)
      (yM.slice (Rect.unit (s := S256x2048) (k0_off6 c) S256x128.size (k0_off6_inb c)) (fun _ => rfl))
      (oM.slice (Rect.unit (s := S4096x128) (k0_off5 c (BitVec.ofNat 32 (1 + d.val))) S256x128.size (k0_off5_inb c d)) (fun _ => rfl))) offsets <|
  each (fun d => waitFor (sendQ d.succ)
      (oM.slice (Rect.unit (s := S4096x128) (k0_off3 c) S256x128.size (k0_off3_inb c)) (fun _ => rfl))
      (yM.slice (Rect.unit (s := S256x2048) (k0_off4 c (BitVec.ofNat 32 (1 + d.val))) S256x128.size (k0_off4_inb c d)) (fun _ => rfl))) offsets <|
  .ret ⟨⟩

set_option maxRecDepth 65536 in
/-- The printed body reads its device and runs the five loops. -/
theorem body_raw : (cc0_body (F := F) xM (Memref.isWhole_whole _) wM (Memref.isWhole_whole _) oM (Memref.isWhole_whole _) yM (Memref.isWhole_whole _)
    cc0_scratch1 cc0_scratch2) = .op .deviceId fun c => rawFlow c := by
  rfl

/-- The body on device `c`, with every offset, device and block named. -/
def flow (c : Dev nD) : Body F :=
  each (fun d => signalTo (peer c d)) offsets <|
  .op (.semWait barS (15#32).toInt) fun _ =>
  .op (.load xM xAll.toLoadRect (View.loadsAt_vmem h_S256x4096)) fun x =>
  .op (.load wM wAll.toLoadRect (View.loadsAt_vmem h_S4096x2048)) fun w =>
  .op (.load yM yAll.toLoadRect (View.loadsAt_vmem h_S256x2048)) fun _ =>
  .op (.store yM yAll (k0_pay1 x w) Finset.univ (View.stores_vmem_bits_univ h_S256x2048 rfl) (.inl rfl)) fun _ =>
  .op (.load yM (colR c).toLoadRect (View.loadsAt_vmem h_S256x128)) fun v =>
  .op (.load oM (rowR c).toLoadRect (View.loadsAt_vmem h_S256x128)) fun _ =>
  .op (.store oM (rowR c) v Finset.univ (View.stores_vmem_bits_univ h_S256x128 rfl) (.inl rfl)) fun _ =>
  each (fun d => sendTo (peer c d) (colM (peer c d)) (rowM c) d.succ rfl) offsets <|
  each (fun d => waitFor (recvQ d.succ) (colM c) (rowM (orig c d))) offsets <|
  each (fun d => waitFor (sendQ d.succ) (rowM c) (colM (peer c d))) offsets <|
  .ret ⟨⟩

theorem rawFlow_eq (c : Dev nD) : rawFlow (F := F) c = flow c := by
  have h1 (r r' : Fin 2 → Nat) (h : r = r') (i i') (o o' : Fin 2 → Nat) (g : o = o') (j j') (k : Body F) :
      (Prog.op (.load yM (Rect.unit (s := S256x2048) r S256x128.size i).toLoadRect (View.loadsAt_vmem h_S256x128)) fun v =>
        .op (.load oM (Rect.unit (s := S4096x128) o S256x128.size j).toLoadRect (View.loadsAt_vmem h_S256x128)) fun _ =>
        .op (.store oM (Rect.unit (s := S4096x128) o S256x128.size j) v Finset.univ (View.stores_vmem_bits_univ h_S256x128 rfl) (.inl rfl)) fun _ => k : Body F)
      = .op (.load yM (Rect.unit (s := S256x2048) r' S256x128.size i').toLoadRect (View.loadsAt_vmem h_S256x128)) fun v =>
        .op (.load oM (Rect.unit (s := S4096x128) o' S256x128.size j').toLoadRect (View.loadsAt_vmem h_S256x128)) fun _ =>
        .op (.store oM (Rect.unit (s := S4096x128) o' S256x128.size j') v Finset.univ (View.stores_vmem_bits_univ h_S256x128 rfl) (.inl rfl)) fun _ => k := by
    subst h; subst g; rfl
  have hrow : (oM.slice (Rect.unit (s := S4096x128) (k0_off3 c) S256x128.size (k0_off3_inb c)) (fun _ => rfl) : Memref sig .tc .vmem S256x128 .f32) = rowM c :=
    Memref.slice_unit_congr oM (k0_off3_eq c) _ _ _ _
  have hown : (yM.slice (Rect.unit (s := S256x2048) (k0_off6 c) S256x128.size (k0_off6_inb c)) (fun _ => rfl) : Memref sig .tc .vmem S256x128 .f32) = colM c :=
    Memref.slice_unit_congr yM (k0_off6_eq c) _ _ _ _
  have hcol (d : Fin 15) : (yM.slice (Rect.unit (s := S256x2048) (k0_off4 c (BitVec.ofNat 32 (1 + d.val))) S256x128.size (k0_off4_inb c d)) (fun _ => rfl) : Memref sig .tc .vmem S256x128 .f32) = colM (peer c d) :=
    Memref.slice_unit_congr yM (off4_eq c d) _ _ _ _
  have hin (d : Fin 15) : (oM.slice (Rect.unit (s := S4096x128) (k0_off5 c (BitVec.ofNat 32 (1 + d.val))) S256x128.size (k0_off5_inb c d)) (fun _ => rfl) : Memref sig .tc .vmem S256x128 .f32) = rowM (orig c d) :=
    Memref.slice_unit_congr oM (off5_eq c d) _ _ _ _
  unfold rawFlow flow
  rw [h1 _ _ (k0_off1_eq c) _ (inb_col c) _ _ (k0_off2_eq c) _ (inb_row c)]
  simp only [sigDev_eq, xferDev_eq, hrow, hown, hcol, hin]
  rfl

/-- The printed body on device `c` is `flow c`. -/
theorem body_flow : (cc0_body (F := F) xM (Memref.isWhole_whole _) wM (Memref.isWhole_whole _) oM (Memref.isWhole_whole _) yM (Memref.isWhole_whole _)
    cc0_scratch1 cc0_scratch2) = .op .deviceId fun c => flow c := by
  rw [body_raw]; exact congrArg _ (funext rawFlow_eq)

end Cert.Exchange

end
-- ==== Proof.Blocks.lean ====
/-
The contents the exchange moves, and the blocks they lie in.

Device `c` computes its rows of the activation into its scratch buffer, `act c`. Column block `e` of that goes to
device `e`, into row block `c` of device `e`'s output buffer. So at the end row block `e` of the output buffer of
device `c` holds column block `c` of `act e`: the array `gathered c`.
-/
module

public import proofs.«01_k».proof.Proof.Flow

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of the exchange are named by offsets. -/
abbrev UX : Type := URounds (GSem nD τ sig) (Fin 15)
/-- The ghost algebra: the launch library's copy beside the exchange's. -/
abbrev UU : Type := UR sig nD τ × UX

local notation "𝕄" => MT nD τ sig Unit (Elt F) ℕ UU ℕ

variable (m : (ℓ : Loc nD τ sig) → Buf (Elt F) ℓ) (ρ : Dev nD → PrngReg)

/-- The machine at launch: any memory, every counter at zero. -/
def s₀ : MemSt nD τ sig (Elt F) := ⟨m, fun _ => 0, ρ⟩

/-- The rows of `x` on device `c`, as its first staging buffer holds them, -/
def xstg (c : Dev nD) : (cc0_stg0_0 : Ref sig .tc).ty.Contents (Elt F) :=
  (win0_0.blk (0 : Fin 1)).view.read (Elt F) ((s₀ m ρ).mem ((c : Thread nD τ).loc main_arg0))
/-- `w` on device `c`, as its second holds it, -/
def wstg (c : Dev nD) : (cc0_stg1_0 : Ref sig .tc).ty.Contents (Elt F) :=
  (win0_1.blk (0 : Fin 1)).view.read (Elt F) ((s₀ m ρ).mem ((c : Thread nD τ).loc main_arg1))
/-- and the activation of their product, which the body stores in its scratch buffer. -/
def act (c : Dev nD) : (cc0_scratch0 : Ref sig .tc).ty.Contents (Elt F) := k0_pay1 (xstg m ρ c) (wstg m ρ c)

/-- The device a row of the output comes from. -/
def rowDev (i : S4096x128.Idx) : Dev nD := ⟨(i 0).val / 256, by have : (i 0).val < 4096 := (i 0).isLt; show _ < 16; omega⟩
/-- The device a column of the scratch buffer is bound for. -/
def colDev (i : S256x2048.Idx) : Dev nD := ⟨(i 1).val / 128, by have : (i 1).val < 2048 := (i 1).isLt; show _ < 16; omega⟩
/-- Where element `i` of device `c`'s output lies in the scratch buffer of the device it comes from. -/
def srcIdx (c : Dev nD) (i : S4096x128.Idx) : S256x2048.Idx := fun a => match a with
  | ⟨0, _⟩ => ⟨(i 0).val % 256, Nat.mod_lt _ (by decide)⟩
  | ⟨1, _⟩ => ⟨128 * c.val + (i 1).val, by
      have h : (i 1).val < 128 := (i 1).isLt
      have hc : c.val < 16 := c.isLt
      show _ < 2048; omega⟩

/-- The output buffer of device `c` after the exchange. -/
def gathered (c : Dev nD) : (cc0_stg2_0 : Ref sig .tc).ty.Contents (Elt F) := fun i => act m ρ (rowDev i) (srcIdx c i)

/-! ## The blocks -/

theorem mem_row (e : Dev nD) (i : S4096x128.Idx) : i ∈ (rowM e).view.set ↔ rowDev i = e := by
  have hi0 : (i 0).val < 4096 := (i 0).isLt
  have hi1 : (i 1).val < 128 := (i 1).isLt
  have he : e.val < 16 := e.isLt
  rw [show (rowM e).view.set = (rowR e).set from View.set_slice_whole _ _, rowR, Rect.mem_set_unit]
  have hf : rowDev i = e ↔ (i 0).val / 256 = e.val := Fin.ext_iff
  rw [hf]
  constructor
  · intro h
    have h0 := h 0
    simp only [Matrix.cons_val_zero] at h0
    have h1 : 256 * e.val ≤ (i 0).val := h0.1
    have h2 : (i 0).val < 256 * e.val + 256 := h0.2
    omega
  · intro h a
    fin_cases a
    · show 256 * e.val ≤ (i 0).val ∧ (i 0).val < 256 * e.val + 256
      omega
    · show 0 ≤ (i 1).val ∧ (i 1).val < 0 + 128
      omega

theorem mem_col (e : Dev nD) (i : S256x2048.Idx) : i ∈ (colM e).view.set ↔ colDev i = e := by
  have hi0 : (i 0).val < 256 := (i 0).isLt
  have hi1 : (i 1).val < 2048 := (i 1).isLt
  have he : e.val < 16 := e.isLt
  rw [show (colM e).view.set = (colR e).set from View.set_slice_whole _ _, colR, Rect.mem_set_unit]
  have hf : colDev i = e ↔ (i 1).val / 128 = e.val := Fin.ext_iff
  rw [hf]
  constructor
  · intro h
    have h0 := h 1
    have h1 : 128 * e.val ≤ (i 1).val := h0.1
    have h2 : (i 1).val < 128 * e.val + 128 := h0.2
    omega
  · intro h a
    fin_cases a
    · show 0 ≤ (i 0).val ∧ (i 0).val < 0 + 256
      omega
    · show 128 * e.val ≤ (i 1).val ∧ (i 1).val < 128 * e.val + 128
      omega

/-- Element `x` of row block `e` of device `c`'s gathered output is element `x` of column block `c` of `act e`. -/
theorem gathered_row (c e : Dev nD) (x : S256x128.Idx) : gathered m ρ c ((rowM e).view.emb x) = act m ρ e ((colM c).view.emb x) := by
  have hx0 : (x 0).val < 256 := (x 0).isLt
  have hr0 : (((rowM e).view.emb x) 0).val = 256 * e.val + 1 * (x 0).val := rfl
  have hr1 : (((rowM e).view.emb x) 1).val = 0 + 1 * (x 1).val := rfl
  have hc0 : (((colM c).view.emb x) 0).val = 0 + 1 * (x 0).val := rfl
  have hc1 : (((colM c).view.emb x) 1).val = 128 * c.val + 1 * (x 1).val := rfl
  have hd : rowDev ((rowM e).view.emb x) = e := (mem_row e _).mp (Finset.mem_map_of_mem _ (Finset.mem_univ _))
  unfold gathered
  rw [hd]
  refine congrArg _ (funext fun a => Fin.ext ?_)
  fin_cases a
  · show (((rowM e).view.emb x) 0).val % 256 = (((colM c).view.emb x) 0).val
    rw [hr0, hc0]; omega
  · show 128 * c.val + (((rowM e).view.emb x) 1).val = (((colM c).view.emb x) 1).val
    rw [hr1, hc1]; omega

/-- The elements of row block `e` of device `n`'s output buffer, -/
def rowSet (n e : Dev nD) : Finset (Idx ((n : Thread nD τ).loc cc0_stg2_0)) := (rowM e).view.set
/-- and of column block `e` of its scratch buffer. -/
def colSet (n e : Dev nD) : Finset (Idx ((n : Thread nD τ).loc cc0_scratch0)) := (colM e).view.set

theorem rowSet_disjoint (n e e' : Dev nD) (h : e ≠ e') : Disjoint (rowSet n e) (rowSet n e') :=
  Finset.disjoint_left.mpr fun i hi hi' => h (((mem_row e i).mp hi).symm.trans ((mem_row e' i).mp hi'))
theorem colSet_disjoint (n e e' : Dev nD) (h : e ≠ e') : Disjoint (colSet n e) (colSet n e') :=
  Finset.disjoint_left.mpr fun i hi hi' => h (((mem_col e i).mp hi).symm.trans ((mem_col e' i).mp hi'))
theorem rowSet_cover (n : Dev nD) : Finset.univ.biUnion (rowSet n) = Finset.univ :=
  Finset.eq_univ_iff_forall.mpr fun i => Finset.mem_biUnion.mpr ⟨rowDev i, Finset.mem_univ _, (mem_row _ i).mpr rfl⟩
theorem colSet_cover (n : Dev nD) : Finset.univ.biUnion (colSet n) = Finset.univ :=
  Finset.eq_univ_iff_forall.mpr fun i => Finset.mem_biUnion.mpr ⟨colDev i, Finset.mem_univ _, (mem_col _ i).mpr rfl⟩

omit [FloatOps F] in
/-- Row block `e` of device `n`'s output buffer, holding what `f` says there; -/
def rowPts (n e : Dev nD) (f : Buf (Elt F) ((n : Thread nD τ).loc cc0_stg2_0)) : sProp 𝕄 :=
  ((n : Thread nD τ).loc cc0_stg2_0) ↦[rowSet n e]{fullShare} f
omit [FloatOps F] in
/-- column block `e` of its scratch buffer. -/
def colPts (n e : Dev nD) (f : Buf (Elt F) ((n : Thread nD τ).loc cc0_scratch0)) : sProp 𝕄 :=
  ((n : Thread nD τ).loc cc0_scratch0) ↦[colSet n e]{fullShare} f

omit [FloatOps F] in
instance rowPts_storable (n e : Dev nD) (f) : BI.Storable (upEmb : UEmb _ 𝕄) (rowPts (F := F) n e f) := by unfold rowPts; infer_instance
omit [FloatOps F] in
instance colPts_storable (n e : Dev nD) (f) : BI.Storable (upEmb : UEmb _ 𝕄) (colPts (F := F) n e f) := by unfold colPts; infer_instance

omit [FloatOps F] in
/-- An output buffer is its sixteen row blocks, -/
theorem rows_eq (n : Dev nD) (f : Buf (Elt F) ((n : Thread nD τ).loc cc0_stg2_0)) :
    (((n : Thread nD τ).loc cc0_stg2_0) ↦{fullShare} f : sProp 𝕄) = bigSep Finset.univ fun e : Dev nD => rowPts n e f := by
  unfold rowPts
  rw [← pointsTo_biUnion Finset.univ (rowSet n) (fun e _ e' _ h => rowSet_disjoint n e e' h), rowSet_cover]
omit [FloatOps F] in
/-- and a scratch buffer its sixteen column blocks. -/
theorem cols_eq (n : Dev nD) (f : Buf (Elt F) ((n : Thread nD τ).loc cc0_scratch0)) :
    (((n : Thread nD τ).loc cc0_scratch0) ↦{fullShare} f : sProp 𝕄) = bigSep Finset.univ fun e : Dev nD => colPts n e f := by
  unfold colPts
  rw [← pointsTo_biUnion Finset.univ (colSet n) (fun e _ e' _ h => colSet_disjoint n e e' h), colSet_cover]

theorem erase_peer : ∀ c : Dev nD, (Finset.univ : Finset (Dev nD)).erase c = Finset.univ.map ⟨peer c, fun d e h => peer_inj c d e h⟩ := by decide +kernel
theorem erase_orig : ∀ c : Dev nD, (Finset.univ : Finset (Dev nD)).erase c = Finset.univ.map ⟨orig c, fun d e h => orig_inj c d e h⟩ := by decide +kernel

omit [FloatOps F] in
/-- A fact about every device is one about `c` and one about the device every offset after it, -/
theorem around_peer (c : Dev nD) (Φ : Dev nD → sProp 𝕄) :
    bigSep Finset.univ Φ = iprop(Φ c ∗ bigSep Finset.univ fun d : Fin 15 => Φ (peer c d)) := by
  rw [bigSep_univ_at _ c, erase_peer, bigSep_map]; rfl
omit [FloatOps F] in
/-- or before it. -/
theorem around_orig (c : Dev nD) (Φ : Dev nD → sProp 𝕄) :
    bigSep Finset.univ Φ = iprop(Φ c ∗ bigSep Finset.univ fun d : Fin 15 => Φ (orig c d)) := by
  rw [bigSep_univ_at _ c, erase_orig, bigSep_map]; rfl

/-- What a transfer leaves: column block `n` of `act c`, written over row block `c` of device `n`'s output, is that block of
    `gathered n`. -/
theorem landed (c n : Dev nD) (fd : Buf (Elt F) ((n : Thread nD τ).loc cc0_stg2_0)) :
    rowPts n c ((rowM c).view.write (Elt F) fd ((colM n).view.read (Elt F) (act m ρ c)) Finset.univ) = rowPts n c (gathered m ρ n) := by
  unfold rowPts
  refine pointsTo_congr fun i hi => ?_
  obtain ⟨x, -, rfl⟩ := Finset.mem_map.mp hi
  refine (View.write_emb_of_mem (v := (rowM c).view) (Val := Elt F) fd _ (Finset.mem_univ x)).trans ?_
  exact (gathered_row m ρ n c x).symm

end Cert.Exchange

end
-- ==== Proof.Sched.lean ====
/-
The exchange's protocol, semaphore by semaphore, in one round.

* The barrier semaphore of device `c` is raised one unit by each of its fifteen peers and waited on once for fifteen. The
  device `d + 1` places before `c` hands over, with its unit, row block `c` of its own output buffer at whatever it holds:
  the place `c`'s transfer to it is to land in.
* The receive semaphore number `d + 1` of device `c` is raised by one landing, from the device `d + 1` places before `c`, whose
  row block of `c`'s output buffer it hands over holding what `gathered c` holds there.
* The send semaphore number `d + 1` of device `c` is raised by the same transfer number `d` leaving `c`: it hands the column
  block it read back, unchanged.
-/
module

public import proofs.«01_k».proof.Proof.Blocks

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The cells -/

abbrev barCell (c : Dev nD) : GSem nD τ sig := ((c : Thread nD τ), .reg barS)
abbrev sendCell (c : Dev nD) (s : Fin 16) : GSem nD τ sig := ((c : Thread nD τ), .dma (sendQ s))
abbrev recvCell (c : Dev nD) (s : Fin 16) : GSem nD τ sig := ((c : Thread nD τ), .dma (recvQ s))

/-- What a semaphore is to the exchange. -/
inductive Role
  | bar
  | recv (d : Fin 15)
  | send (d : Fin 15)
  | none
  deriving DecidableEq

/-- The role of each semaphore: numbers 4 to 18 of the DMA semaphores are the sends', 20 to 34 the receives'. -/
def role : SemLoc sig → Role
  | .reg _ => .bar
  | .dma q => if h : 20 ≤ q.val ∧ q.val < 35 then .recv ⟨q.val - 20, by omega⟩ else if h : 4 ≤ q.val ∧ q.val < 19 then .send ⟨q.val - 4, by omega⟩ else .none

theorem role_recv : ∀ d : Fin 15, role (.dma (recvQ d.succ)) = .recv d := by decide +kernel
theorem role_send : ∀ d : Fin 15, role (.dma (sendQ d.succ)) = .send d := by decide +kernel

/-- The credit of one block: what a landing raises its semaphores by. -/
abbrev credit : ℕ := (rowM 0).view.dmaCredit
theorem credit_pos : 0 < credit := View.dmaCredit_pos _ (by decide)
theorem credit_row (e : Dev nD) : (rowM e).view.dmaCredit = credit := rfl
theorem credit_col (e : Dev nD) : (colM e).view.dmaCredit = credit := rfl

/-! ## The schedule -/

/-- One round, round 0, as the head of this file tells it. -/
def sched : Rounds.Schedule (GSem nD τ sig) (Fin 15) 𝕄 where
  duties g r := if r = 0 ∧ g.1.2 = .tc then (match role g.2 with | .bar => Finset.univ | .recv _ => {0} | .send _ => {0} | .none => ∅) else ∅
  unitless _ := False
  amount g _ _ := match role g.2 with | .bar => 1 | _ => credit
  payload g _ d := match role g.2 with
    | .bar => iprop(∃ f, rowPts (orig g.1.1 d) g.1.1 f)
    | .recv d' => rowPts g.1.1 (orig g.1.1 d') (gathered m ρ g.1.1)
    | .send d' => colPts g.1.1 (peer g.1.1 d') (act m ρ g.1.1)
    | .none => iprop(emp)
  amount_pos g _ _ _ := by
    split
    · exact Nat.one_pos
    · exact credit_pos

instance sched_storable (g : GSem nD τ sig) (r : ℕ) (d : Fin 15) : BI.Storable (upEmb : UEmb _ 𝕄) ((sched (F := F) m ρ).payload g r d) := by
  dsimp only [sched]
  split <;> infer_instance

section Facts
variable (c : Dev nD) (d : Fin 15)

theorem duties_bar : (sched (F := F) m ρ).duties (barCell c) 0 = Finset.univ := by
  dsimp only [sched]; rw [if_pos ⟨rfl, rfl⟩]; rfl
theorem duties_recv : (sched (F := F) m ρ).duties (recvCell c d.succ) 0 = {0} := by
  dsimp only [sched]; rw [if_pos ⟨rfl, rfl⟩, role_recv]
theorem duties_send : (sched (F := F) m ρ).duties (sendCell c d.succ) 0 = {0} := by
  dsimp only [sched]; rw [if_pos ⟨rfl, rfl⟩, role_send]
theorem duties_later (g : GSem nD τ sig) : ∀ r, 1 ≤ r → (sched (F := F) m ρ).duties g r = ∅ :=
  fun r hr => if_neg fun h => by omega
/-- Entry 0 of the two arrays is used by nobody. -/
theorem duties_recv_zero : ∀ r, (sched (F := F) m ρ).duties (recvCell c 0) r = ∅ := fun r => by
  dsimp only [sched]; rw [show role (.dma (recvQ 0)) = .none by decide +kernel]; exact ite_self _
theorem duties_send_zero : ∀ r, (sched (F := F) m ρ).duties (sendCell c 0) r = ∅ := fun r => by
  dsimp only [sched]; rw [show role (.dma (sendQ 0)) = .none by decide +kernel]; exact ite_self _

theorem amount_bar (e : Fin 15) : (sched (F := F) m ρ).amount (barCell c) 0 e = 1 := rfl
theorem amount_recv (e : Fin 15) : (sched (F := F) m ρ).amount (recvCell c d.succ) 0 e = credit := by dsimp only [sched]; rw [role_recv]
theorem amount_send (e : Fin 15) : (sched (F := F) m ρ).amount (sendCell c d.succ) 0 e = credit := by dsimp only [sched]; rw [role_send]

theorem expect_bar : (sched (F := F) m ρ).expect (barCell c) 0 = 15 := by
  unfold Schedule.expect Schedule.amountOf
  rw [duties_bar, Finset.sum_congr rfl fun e _ => amount_bar m ρ c e]; decide
theorem expect_recv : (sched (F := F) m ρ).expect (recvCell c d.succ) 0 = credit := by
  unfold Schedule.expect Schedule.amountOf; rw [duties_recv, Finset.sum_singleton, amount_recv]
theorem expect_send : (sched (F := F) m ρ).expect (sendCell c d.succ) 0 = credit := by
  unfold Schedule.expect Schedule.amountOf; rw [duties_send, Finset.sum_singleton, amount_send]

theorem payload_bar (e : Fin 15) : (sched (F := F) m ρ).payload (barCell c) 0 e = iprop(∃ f, rowPts (orig c e) c f) := rfl
theorem payload_recv (e : Fin 15) : (sched (F := F) m ρ).payload (recvCell c d.succ) 0 e = rowPts c (orig c d) (gathered m ρ c) := by
  dsimp only [sched]; rw [role_recv]
theorem payload_send (e : Fin 15) : (sched (F := F) m ρ).payload (sendCell c d.succ) 0 e = colPts c (peer c d) (act m ρ c) := by
  dsimp only [sched]; rw [role_send]

/-- What the barrier wait hands over: `c`'s row block of every peer's output buffer. -/
theorem rest_bar : bigSep ((sched (F := F) m ρ).duties (barCell c) 0 \ ∅) (fun e => (sched (F := F) m ρ).payload (barCell c) 0 e)
    = bigSep Finset.univ fun e : Fin 15 => iprop(∃ f, rowPts (F := F) (orig c e) c f) := by
  rw [Finset.sdiff_empty, duties_bar]; rfl
theorem rest_recv : bigSep ((sched (F := F) m ρ).duties (recvCell c d.succ) 0 \ ∅) (fun e => (sched (F := F) m ρ).payload (recvCell c d.succ) 0 e)
    = rowPts c (orig c d) (gathered m ρ c) := by
  rw [Finset.sdiff_empty, duties_recv, bigSep_singleton, payload_recv]
theorem rest_send : bigSep ((sched (F := F) m ρ).duties (sendCell c d.succ) 0 \ ∅) (fun e => (sched (F := F) m ρ).payload (sendCell c d.succ) 0 e)
    = colPts c (peer c d) (act m ρ c) := by
  rw [Finset.sdiff_empty, duties_send, bigSep_singleton, payload_send]

end Facts

/-! ## Debts and levels -/

/-- The landings device `c` owes, over a list of offsets: one block's credit to the receive semaphore of each peer. -/
def owedSends (c : Dev nD) (l : List (Fin 15)) : CellTallies nD τ sig Unit := (l.map fun d => tallyAt (recvCell (peer c d) d.succ) () credit).sum
/-- The barrier units it owes over a list of offsets, on top of `O`. -/
def owedSignals (c : Dev nD) (l : List (Fin 15)) (O : CellTallies nD τ sig Unit) : CellTallies nD τ sig Unit :=
  O + (l.map fun d => tallyAt (barCell (peer c d)) () 1).sum
/-- All of it, at launch. -/
def owed (c : Dev nD) : CellTallies nD τ sig Unit := owedSignals c offsets (owedSends c offsets)

theorem owedSends_cons (c : Dev nD) (d : Fin 15) (l : List (Fin 15)) :
    owedSends c (d :: l) = owedSends c l + tallyAt (recvCell (peer c d) d.succ) () credit := by
  unfold owedSends; rw [List.map_cons, List.sum_cons, add_comm]
theorem owedSignals_cons (c : Dev nD) (d : Fin 15) (l : List (Fin 15)) (O : CellTallies nD τ sig Unit) :
    owedSignals c (d :: l) O = owedSignals c l O + tallyAt (barCell (peer c d)) () 1 := by
  unfold owedSignals; rw [List.map_cons, List.sum_cons, add_comm (tallyAt _ _ _), ← add_assoc]

def levSet (g : GSem nD τ sig) : Finset Unit := if g.1.2 = .tc then {()} else ∅
/-- Barrier cells at level 1, receive cells at 2, all others at 0. -/
def lev (g : GSem nD τ sig) (_ : Unit) : ℕ := match role g.2 with | .bar => 1 | .recv _ => 2 | _ => 0

theorem levSet_of_ne (g : GSem nD τ sig) (h : g.1.2 ≠ .tc) : levSet g = ∅ := if_neg h
theorem levSet_tc (c : Dev nD) (sm : SemLoc sig) : levSet ((c : Thread nD τ), sm) = {()} := if_pos rfl

theorem sum_pos {A : Type} {l : List A} {f : A → CellTallies nD τ sig Unit} {g : GSem nD τ sig} {u : Unit}
    (h : 0 < (l.map f).sum g u) : ∃ a ∈ l, 0 < f a g u := by
  induction l with
  | nil => exact absurd h (Nat.lt_irrefl 0)
  | cons a l ih =>
    rw [List.map_cons, List.sum_cons, Pi.add_apply, Finsupp.add_apply] at h
    rcases Nat.eq_zero_or_pos (f a g u) with h0 | h0
    · rw [h0, Nat.zero_add] at h
      obtain ⟨b, hb, hb'⟩ := ih h
      exact ⟨b, List.mem_cons_of_mem _ hb, hb'⟩
    · exact ⟨a, List.mem_cons_self, h0⟩

theorem tally_pos {g g' : GSem nD τ sig} {k : ℕ} {u : Unit} (h : 0 < (tallyAt g () k : CellTallies nD τ sig Unit) g' u) : g' = g := by
  rw [tallyAt_apply] at h
  by_contra hn
  rw [if_neg fun h' => hn h'.1] at h
  exact Nat.lt_irrefl 0 h

theorem owedSends_pos {c : Dev nD} {l : List (Fin 15)} {g : GSem nD τ sig} {u : Unit} (h : 0 < owedSends c l g u) :
    ∃ d, g = recvCell (peer c d) d.succ := by
  obtain ⟨d, -, hd⟩ := sum_pos h
  exact ⟨d, tally_pos hd⟩
theorem owed_pos {c : Dev nD} {g : GSem nD τ sig} {u : Unit} (h : 0 < owed c g u) :
    (∃ d, g = recvCell (peer c d) d.succ) ∨ ∃ d, g = barCell (peer c d) := by
  unfold owed owedSignals at h
  rw [Pi.add_apply, Finsupp.add_apply] at h
  rcases Nat.eq_zero_or_pos (owedSends c offsets g u) with h0 | h0
  · rw [h0, Nat.zero_add] at h
    obtain ⟨d, -, hd⟩ := sum_pos h
    exact .inr ⟨d, tally_pos hd⟩
  · exact .inl (owedSends_pos h0)

theorem lev_recv (c : Dev nD) (d : Fin 15) (u : Unit) : lev (recvCell c d.succ) u = 2 := by unfold lev; rw [role_recv]
theorem lev_bar (c : Dev nD) (u : Unit) : lev (barCell c) u = 1 := rfl

omit [FloatOps F] in
/-- A device may wait on a semaphore of no role, whether it owes everything or nothing. -/
theorem mayWait_stage (c : Dev nD) (q : DmaSem sig) (hq : role (.dma q) = .none) (O : CellTallies nD τ sig Unit) (hO : O = owed c ∨ O = 0) :
    (levAts levSet lev : sProp 𝕄) ⊢ MayWait (c : Thread nD τ) (.dma q) () O := by
  rcases hO with rfl | rfl
  · refine MayOwe.of_cut (L := levSet) (lev := lev) 0 (fun p hp => by rw [Finset.mem_singleton.mp hp, levSet_tc]; exact Finset.mem_singleton_self _)
      (fun g u hg => by rcases owed_pos hg with ⟨d, rfl⟩ | ⟨d, rfl⟩ <;> exact Finset.mem_singleton_self _)
      (fun p hp => by rw [Finset.mem_singleton.mp hp]; dsimp only [lev]; rw [hq])
      (fun g u hg => by
        rcases owed_pos hg with ⟨d, rfl⟩ | ⟨d, rfl⟩
        · rw [lev_recv]; decide
        · rw [lev_bar]; decide)
  · rw [MayWait_zero]; iintro -; iempintro

omit [FloatOps F] in
/-- A device may wait on its barrier semaphore owing landings only. -/
theorem mayWait_bar (c : Dev nD) : (levAts levSet lev : sProp 𝕄) ⊢ MayWait (c : Thread nD τ) (.reg barS) () (owedSends c offsets) :=
  MayOwe.of_cut (L := levSet) (lev := lev) 1 (fun p hp => by rw [Finset.mem_singleton.mp hp, levSet_tc]; exact Finset.mem_singleton_self _)
    (fun g u hg => by obtain ⟨d, rfl⟩ := owedSends_pos hg; exact Finset.mem_singleton_self _)
    (fun p hp => by rw [Finset.mem_singleton.mp hp]; exact le_refl _)
    (fun g u hg => by obtain ⟨d, rfl⟩ := owedSends_pos hg; rw [lev_recv]; decide)

end Cert.Exchange

end
-- ==== Proof.Phases.lean ====
/-
The four loops of the body, each run once for an arbitrary list of offsets.
-/
module

public import proofs.«01_k».proof.Proof.Sched
public import Idealize.ShloMosaic.Lib.Pipeline.BigSepL

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device holds -/

/-- A device's semaphores of the exchange: the barrier's, and the thirty-two of the two arrays (`false` the sends'). -/
abbrev Which : Type := Option (Bool × Fin 16)
def slot : Bool × Fin 16 → SemLoc sig := fun p => .dma (bif p.1 then recvQ p.2 else sendQ p.2)
def semAt : Which → SemLoc sig
  | none => .reg barS
  | some p => slot p
def cellAt (x : Dev nD × Which) : GSem nD τ sig := ((x.1 : Thread nD τ), semAt x.2)

theorem cellAt_bar (c : Dev nD) : cellAt (c, none) = barCell c := rfl
theorem cellAt_send (c : Dev nD) (s : Fin 16) : cellAt (c, some (false, s)) = sendCell c s := rfl
theorem cellAt_recv (c : Dev nD) (s : Fin 16) : cellAt (c, some (true, s)) = recvCell c s := rfl

variable (K : Dev nD × Which → ℕ)

/-- Every cell's invariant, at its name, and that its round 0 has begun. -/
def records : sProp 𝕄 :=
  bigSep Finset.univ fun x : Dev nD × Which => iprop(cellInv EX (sched m ρ) (K x) (cellAt x) ∗ reached EX (cellAt x) 0)

instance records_persistent : BI.Persistent (records m ρ K) := by unfold records; infer_instance

theorem records_at (x : Dev nD × Which) :
    records m ρ K ⊢ iprop(cellInv EX (sched m ρ) (K x) (cellAt x) ∗ reached EX (cellAt x) 0) := by
  unfold records
  exact bigSep_elim (i := x) (Finset.mem_univ _)

/-- `owes` at some record of waits. -/
def owing (c : Dev nD) (O : CellTallies nD τ sig Unit) : sProp 𝕄 := iprop(∃ W, owes (c : Thread nD τ) O W)

/-- The weakest precondition of a body on device `c`. -/
abbrev wpc (c : Dev nD) (p : Body F) (Q : PUnit → sProp 𝕄) : sProp 𝕄 :=
  wp frame (wpE (defs₀ (F := F)) 𝒱₀ (c : Thread nD τ) none) Set.univ p Q

variable (c : Dev nD)

theorem each_nil (op : Fin 15 → TpuEff nD τ sig (Elt F) Λ₀ .tc PUnit) (k : Body F) : each op [] k = k := rfl
theorem each_cons (op : Fin 15 → TpuEff nD τ sig (Elt F) Λ₀ .tc PUnit) (d : Fin 15) (l : List (Fin 15)) (k : Body F) :
    each op (d :: l) k = .op (op d) fun _ => each op l k := rfl

/-- The signals: for every offset, `c` hands its row block of that peer to the peer. -/
theorem signals (Q : PUnit → sProp 𝕄) (O : CellTallies nD τ sig Unit) (k : Body F) (l : List (Fin 15)) :
    iprop(records m ρ K ∗ owing c (owedSignals c l O)
        ∗ bigSepL l (fun d : Fin 15 => iprop(dutyTok EX (barCell (peer c d)) 0 d ∗ ∃ f, rowPts (F := F) c (peer c d) f)))
      ⊢ iprop((owing c O -∗ wpc c k Q) -∗ wpc c (each (fun d => signalTo (peer c d)) l k) Q) := by
  induction l with
  | nil =>
    rw [each_nil, show owedSignals c [] O = O from add_zero O]
    iintro ⟨-, HO, -⟩ Hk
    iapply Hk
    iexact HO
  | cons d l ih =>
    rw [each_cons, owedSignals_cons, bigSepL_cons', signalTo]
    unfold owing
    iintro ⟨#Hr, ⟨%W, HO⟩, ⟨Ht, Hp⟩, Hl⟩ Hk
    ihave #H := (records_at m ρ K (peer c d, none)) $$ Hr
    rw [cellAt_bar]
    icases H with ⟨Hi, Hre⟩
    iapply (Rounds.wp_signal 𝒱₀ EX (sched m ρ) (c : Thread nD τ) none (dst := (peer c d : Thread nD τ)) (κ := K (peer c d, none))
      (d := d) (by rw [duties_bar]; exact Finset.mem_univ _) ((amount_bar m ρ (peer c d) d).trans (by decide)) () (owedSignals c l O) rfl) $$ [HO Ht Hp]
    · isplitr; · iexact Hi
      isplitl [HO]; · iexact HO
      isplitl [Ht]; · iexact Ht
      isplitl [Hp]; · rw [payload_bar, orig_peer]; iexact Hp
      iexact Hre
    iintro HO
    unfold owing at ih
    iapply ih $$ [HO Hl]
    · isplitr; · iexact Hr
      isplitl [HO]; · iexists W; iexact HO
      iexact Hl
    iexact Hk

/-- What the transfer at offset `d` takes. -/
def sendNeeds (d : Fin 15) : sProp 𝕄 :=
  iprop(colPts c (peer c d) (act m ρ c) ∗ (∃ f, rowPts (F := F) (peer c d) c f)
    ∗ dutyTok EX (sendCell c d.succ) 0 0 ∗ dutyTok EX (recvCell (peer c d) d.succ) 0 0)

/-- One transfer: what it takes, and the credit it leaves. -/
theorem send_one (Q : PUnit → sProp 𝕄) (d : Fin 15) (O : CellTallies nD τ sig Unit) (W : Waits sig Unit) (k : PUnit → Body F)
    (f : Buf (Elt F) ((rowM c).view.loc (peer c d : Thread nD τ))) :
    iprop(cellInv EX (sched m ρ) (K (c, some (false, d.succ))) (sendCell c d.succ)
        ∗ cellInv EX (sched m ρ) (K (peer c d, some (true, d.succ))) (recvCell (peer c d) d.succ)
        ∗ colPts c (peer c d) (act m ρ c) ∗ rowPts (peer c d) c f
        ∗ owes (c : Thread nD τ) (O + tallyAt (recvCell (peer c d) d.succ) () credit) W
        ∗ dutyTok EX (sendCell c d.succ) 0 0 ∗ reached EX (sendCell c d.succ) 0
        ∗ dutyTok EX (recvCell (peer c d) d.succ) 0 0 ∗ reached EX (recvCell (peer c d) d.succ) 0)
      ⊢ iprop(((cred (tallyAt (sendCell c d.succ) () credit) ∗ owes (c : Thread nD τ) O W) -∗ wpc c (k ⟨⟩) Q)
          -∗ wpc c (.op (.enqueueDma (colM (peer c d)) (.remote (Dev.tc (peer c d) : Thread nD τ) (rowM c) (.dma (sendQ d.succ)) rfl) (.dma (recvQ d.succ))
              (View.wordExact_bits rfl) (View.wordExact_bits rfl) ⟨⟨rfl, Or.inl rfl⟩, trivial⟩) k) Q) := by
  unfold colPts rowPts colSet rowSet
  exact Rounds.wp_send_pointsTo 𝒱₀ EX (sched m ρ) (c : Thread nD τ) none (c' := (peer c d : Thread nD τ)) (src := colM (peer c d)) (dst := rowM c) (sS := .dma (sendQ d.succ)) (sem := .dma (recvQ d.succ)) (fs := act m ρ c) (κ₁ := K (c, some (false, d.succ))) (κ₂ := K (peer c d, some (true, d.succ)))
    (r₁ := 0) (r₂ := 0) (d₁ := 0) (d₂ := 0) (fd := f)
    (by rw [duties_send]; exact Finset.mem_singleton_self _) (by rw [duties_recv]; exact Finset.mem_singleton_self _)
    () () credit rfl (amount_send m ρ c d 0) (amount_recv m ρ (peer c d) d 0) O rfl (W := W)
    (by rw [payload_send]; exact BI.Entails.refl _)
    (by rw [payload_recv, orig_peer]; exact Entails.of_eq (landed m ρ c (peer c d) f))

/-- The transfers: for every offset, column block of that peer to the peer, landing in its row block of `c`. -/
theorem sends (Q : PUnit → sProp 𝕄) (k : Body F) (l : List (Fin 15)) :
    iprop(records m ρ K ∗ owing c (owedSends c l) ∗ bigSepL l (sendNeeds m ρ c))
      ⊢ iprop((owing c 0 ∗ bigSepL l (fun d : Fin 15 => cred (tallyAt (sendCell c d.succ) () credit)) -∗ wpc c k Q)
          -∗ wpc c (each (fun d => sendTo (peer c d) (colM (peer c d)) (rowM c) d.succ rfl) l k) Q) := by
  induction l generalizing Q with
  | nil =>
    rw [each_nil, show owedSends c [] = 0 from rfl]
    iintro ⟨-, HO, Hl⟩ Hk
    iapply Hk
    isplitl [HO]; · iexact HO
    iempintro
  | cons d l ih =>
    rw [each_cons, owedSends_cons, bigSepL_cons', bigSepL_cons']
    beta_reduce
    unfold sendTo
    unfold owing sendNeeds
    iintro ⟨#Hr, ⟨%W, HO⟩, ⟨Hcol, ⟨%f, Hrow⟩, Hts, Htr⟩, Hl⟩ Hk
    ihave #H := (records_at m ρ K (c, some (false, d.succ))) $$ Hr
    ihave #H' := (records_at m ρ K (peer c d, some (true, d.succ))) $$ Hr
    rw [cellAt_send, cellAt_recv]
    icases H with ⟨His, Hrs⟩
    icases H' with ⟨Hir, Hrr⟩
    iapply (send_one m ρ K c Q d (owedSends c l) W _ f) $$ [Hcol Hrow HO Hts Htr]
    · isplitr; · iexact His
      isplitr; · iexact Hir
      isplitl [Hcol]; · iexact Hcol
      isplitl [Hrow]; · iexact Hrow
      isplitl [HO]; · iexact HO
      isplitl [Hts]; · iexact Hts
      isplitr; · iexact Hrs
      isplitl [Htr]; · iexact Htr
      iexact Hrr
    iintro ⟨Hc, HO⟩
    unfold owing sendNeeds at ih
    iapply ih $$ [HO Hl]
    · isplitr; · iexact Hr
      isplitl [HO]; · iexists W; iexact HO
      iexact Hl
    iintro ⟨HO, Hl⟩
    iapply Hk
    isplitl [HO]; · iexact HO
    isplitl [Hc]; · iexact Hc
    iexact Hl

/-- The waits over one of the two arrays: each gives what its round hands over, and closes its semaphore at zero. -/
theorem waits (Q : PUnit → sProp 𝕄) (q : Fin 15 → DmaSem sig) (w : Fin 15 → Which) (hq : ∀ d : Fin 15, cellAt (c, w d) = ((c : Thread nD τ), .dma (q d))) (P : Fin 15 → sProp 𝕄) (src dst : Fin 15 → Memref sig .tc .vmem S256x128 .f32)
    (hcr : ∀ d, (dst d).view.dmaCredit = credit)
    (hex : ∀ d, (sched (F := F) m ρ).expect (((c : Thread nD τ), .dma (q d))) 0 = credit)
    (hP : ∀ d : Fin 15, bigSep ((sched (F := F) m ρ).duties (((c : Thread nD τ), .dma (q d))) 0 \ ∅)
      (fun e => (sched (F := F) m ρ).payload (((c : Thread nD τ), .dma (q d))) 0 e) = P d) (k : Body F) (l : List (Fin 15)) :
    iprop(records m ρ K ∗ owing c 0
        ∗ bigSepL l (fun d : Fin 15 => iprop(cred (tallyAt (((c : Thread nD τ), .dma (q d))) () credit) ∗ atPos EX (((c : Thread nD τ), .dma (q d))) 0 ∅ 0)))
      ⊢ iprop((owing c 0 ∗ bigSepL l (fun d : Fin 15 => iprop(P d ∗ semVal (((c : Thread nD τ), .dma (q d))) 0)) -∗ wpc c k Q)
          -∗ wpc c (each (fun d => waitFor (q d) (src d) (dst d)) l k) Q) := by
  induction l generalizing Q with
  | nil =>
    rw [each_nil]
    iintro ⟨-, HO, Hl⟩ Hk
    iapply Hk
    isplitl [HO]; · iexact HO
    iempintro
  | cons d l ih =>
    rw [each_cons, bigSepL_cons', bigSepL_cons']
    beta_reduce
    unfold waitFor
    unfold owing
    iintro ⟨#Hr, ⟨%W, HO⟩, ⟨Hc, Hat⟩, Hl⟩ Hk
    ihave #H := (records_at m ρ K (c, w d)) $$ Hr
    rw [hq d]
    icases H with ⟨Hi, -⟩
    iapply (Rounds.wp_wait_rest_token 𝒱₀ EX (sched m ρ) (c : Thread nD τ) none (κ := K (c, w d))
      (wpE_waitDma2_eq 𝒱₀ (c : Thread nD τ) none Set.univ) (Set.mem_univ _) () (O := 0) (W := W) (R := 0) (m := 0) (T := ∅)
      ((Nat.zero_add _).trans ((hcr d).trans (hex d).symm))) $$ [Hc HO Hat]
    · isplitr; · iexact Hi
      isplitl [Hc]; · rw [hcr d]; iexact Hc
      isplitl [HO]; · iexact HO
      isplitr; · rw [MayWait_zero]; iempintro
      iexact Hat
    iintro ⟨HO, Hat, -, Hpay⟩
    ihave HP := (Entails.of_eq (hP d)) $$ Hpay
    imod (Rounds.cell_close EX (sched m ρ) (Set.mem_univ (K (c, w d))) (fun h => h) (R := 0 + 1) (duties_later m ρ _)) $$ [Hat] with Hz
    · isplitr; · iexact Hi
      iexact Hat
    unfold owing at ih
    iapply ih $$ [HO Hl]
    · isplitr; · iexact Hr
      isplitl [HO]; · iexists _; iexact HO
      iexact Hl
    iintro ⟨HO, Hl⟩
    iapply Hk
    isplitl [HO]; · iexact HO
    isplitl [HP Hz]
    · isplitl [HP]; · iexact HP
      iexact Hz
    iexact Hl

end Cert.Exchange

end
-- ==== Proof.Body.lean ====
/-
The body of the kernel on one device: the five loops and what lies between them, from what the launch hands the device to
the output buffer holding what every device sent.
-/
module

public import proofs.«01_k».proof.Proof.Phases

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Which → ℕ)

/-! ## Reindexing -/

omit [FloatOps F] in
theorem over_offsets (Φ : Fin 15 → sProp 𝕄) : bigSep Finset.univ Φ = bigSepL offsets Φ :=
  bigSep_univ_eq_bigSepL offsets (by decide) (by decide) Φ

omit [FloatOps F] in
/-- Two families over the offsets are one of pairs. -/
theorem offsets_sep (Φ Ψ : Fin 15 → sProp 𝕄) : iprop(bigSepL offsets Φ ∗ bigSepL offsets Ψ) = bigSepL offsets fun d => iprop(Φ d ∗ Ψ d) := by
  rw [← over_offsets, ← over_offsets, ← over_offsets, bigSep_sep']

theorem orig_rev : ∀ (c : Dev nD) (d : Fin 15), orig c (Fin.rev d) = peer c d := by decide +kernel

omit [FloatOps F] in
/-- The devices the offsets before `c` are the devices the offsets after it. -/
theorem orig_to_peer (c : Dev nD) (Φ : Dev nD → sProp 𝕄) :
    bigSep Finset.univ (fun d : Fin 15 => Φ (orig c d)) = bigSep Finset.univ (fun d : Fin 15 => Φ (peer c d)) := by
  rw [bigSep_univ_equiv Fin.revPerm (fun d : Fin 15 => Φ (orig c d))]
  exact bigSep_congr fun d _ => congrArg Φ (orig_rev c d)

omit [FloatOps F] in
/-- Over the sixteen entries: entry 0, then the fifteen the offsets use. -/
theorem over_entries (Φ : Fin 16 → sProp 𝕄) : bigSep Finset.univ Φ = iprop(Φ 0 ∗ bigSep Finset.univ fun d : Fin 15 => Φ d.succ) := by
  rw [bigSep_univ_at _ 0, show (Finset.univ : Finset (Fin 16)).erase 0 = Finset.univ.map ⟨Fin.succ, Fin.succ_injective _⟩ by decide, bigSep_map]; rfl
omit [FloatOps F] in
/-- Over both arrays. -/
theorem over_slots (Φ : Bool × Fin 16 → sProp 𝕄) : bigSep Finset.univ Φ
    = iprop((Φ (false, 0) ∗ bigSepL offsets fun d => Φ (false, d.succ)) ∗ (Φ (true, 0) ∗ bigSepL offsets fun d => Φ (true, d.succ))) := by
  rw [bigSep_univ_prod, bigSep_univ_eq_bigSepL [false, true] (by decide) (by decide), bigSepL_cons_cons, bigSepL_singleton,
    over_entries, over_entries, over_offsets, over_offsets]
  rfl

/-! ## What a device starts from and ends with -/

/-- The tokens of the duties device `c` pays: a unit at each peer's barrier, a landing at each peer, a return at its own side. -/
def tokens (c : Dev nD) : sProp 𝕄 :=
  iprop((bigSep Finset.univ fun d : Fin 15 => dutyTok EX (barCell (peer c d)) 0 d)
    ∗ (bigSep Finset.univ fun d : Fin 15 => dutyTok EX (recvCell (peer c d) d.succ) 0 0)
    ∗ (bigSep Finset.univ fun d : Fin 15 => dutyTok EX (sendCell c d.succ) 0 0))
/-- Its positions: at the start of round 0 of each of its own cells. -/
def positions (c : Dev nD) : sProp 𝕄 :=
  iprop(atPos EX (barCell c) 0 ∅ 0 ∗ bigSep Finset.univ fun p : Bool × Fin 16 => atPos EX (cellAt (c, some p)) 0 ∅ 0)
/-- Its credit: the fifteen units it will wait for, and the fifteen landings. -/
def credits (c : Dev nD) : sProp 𝕄 :=
  iprop(cred (tallyAt (barCell c) () 15) ∗ bigSep Finset.univ fun d : Fin 15 => cred (tallyAt (recvCell c d.succ) () credit))

def ghost (c : Dev nD) : sProp 𝕄 := iprop(records m ρ K ∗ positions c ∗ tokens c)
def start (c : Dev nD) : sProp 𝕄 := iprop((∃ K, ghost m ρ K c) ∗ credits c ∗ levAts levSet lev)

def scratchPts (c : Dev nD) (f : Buf (Elt F) ((c : Thread nD τ).loc cc0_scratch0)) : sProp 𝕄 := ((c : Thread nD τ).loc cc0_scratch0) ↦{fullShare} f

def before (c : Dev nD) : sProp 𝕄 := iprop(start m ρ c ∗ ∃ f, scratchPts c f)
/-- After the body the scratch buffer is whole again and every semaphore of the exchange is at zero. -/
def after (c : Dev nD) : sProp 𝕄 :=
  iprop(scratchPts c (act m ρ c) ∗ (bigSep Finset.univ fun p : Bool × Fin 16 => semVal (cellAt (c, some p)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => gathered m ρ c
  Φ t := match t with
    | ⟨0, _⟩ => before m ρ c
    | ⟨_ + 1, _⟩ => after m ρ c
  q _ := fullShare
  owed t := match t with
    | ⟨0, _⟩ => owed c
    | ⟨_ + 1, _⟩ => 0

theorem fetch_x : (cfg0.win (0 : Fin 3)).fetch t0_0 = true := rfl
theorem fetch_w : (cfg0.win (1 : Fin 3)).fetch t0_0 = true := rfl

/-! ## Accesses -/

theorem hz : (![0, 0] : Fin 2 → Nat) = fun _ => 0 := funext fun a => by fin_cases a <;> rfl
theorem read_x (f : (cc0_stg0_0 : Ref sig .tc).ty.Contents (Elt F)) : xM.view.readAt (Elt F) xAll.toLoadRect f = f :=
  Memref.readAt_unit_zero (Elt F) cc0_stg0_0 hz _ f
theorem read_w (f : (cc0_stg1_0 : Ref sig .tc).ty.Contents (Elt F)) : wM.view.readAt (Elt F) wAll.toLoadRect f = f :=
  Memref.readAt_unit_zero (Elt F) cc0_stg1_0 hz _ f
theorem write_y (f w : (cc0_scratch0 : Ref sig .tc).ty.Contents (Elt F)) : (yM.access yAll).write (Elt F) f w Finset.univ = w :=
  Memref.write_access_unit_zero_univ (Elt F) cc0_scratch0 hz _ f w

/-- A device's own block: column block `c` of its activation, stored over row block `c` of its output. -/
theorem own_block (c : Dev nD) (Q : PUnit → sProp 𝕄) (k : Body F) (f : Buf (Elt F) ((c : Thread nD τ).loc cc0_stg2_0)) :
    iprop(scratchPts c (act m ρ c) ∗ rowPts c c f)
      ⊢ iprop((scratchPts c (act m ρ c) ∗ rowPts c c (gathered m ρ c) -∗ wpc c k Q)
        -∗ wpc c (.op (.load yM (colR c).toLoadRect (View.loadsAt_vmem h_S256x128)) fun v =>
            .op (.load oM (rowR c).toLoadRect (View.loadsAt_vmem h_S256x128)) fun _ =>
            .op (.store oM (rowR c) v Finset.univ (View.stores_vmem_bits_univ h_S256x128 rfl) (.inl rfl)) fun _ => k) Q) := by
  rw [← landed m ρ c c f]
  unfold scratchPts rowPts
  iintro ⟨Hy, Ho⟩ Hk
  iapply (wp_load 𝒱₀ (c : Thread nD τ) none Set.univ (m := yM) (Finset.subset_univ _)) $$ Hy; iintro Hy
  iapply (wp_load_rect 𝒱₀ (c : Thread nD τ) none Set.univ (m := oM) (r := rowR c) (S := rowSet c c) (Finset.Subset.refl _)) $$ Ho; iintro Ho
  iapply (wp_store 𝒱₀ (c : Thread nD τ) none Set.univ (m := oM) (r := rowR c) (Mk := Finset.univ) (S := rowSet c c) (Finset.Subset.refl _)) $$ Ho; iintro Ho
  iapply Hk
  isplitl [Hy]; · iexact Hy
  iexact Ho

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The body on one device, from what it starts from and its three staging buffers: `x` and `w` in the first two. -/
theorem sound_flow (c : Dev nD) (fo : Buf (Elt F) ((c : Thread nD τ).loc cc0_stg2_0)) (fy : Buf (Elt F) ((c : Thread nD τ).loc cc0_scratch0)) (Q : PUnit → sProp 𝕄) :
    iprop(ghost m ρ K c ∗ credits c ∗ levAts levSet lev ∗ scratchPts c fy ∗ owing c (owed c)
        ∗ (((c : Thread nD τ).loc cc0_stg0_0) ↦{fullShare} xstg m ρ c) ∗ (((c : Thread nD τ).loc cc0_stg1_0) ↦{fullShare} wstg m ρ c)
        ∗ (((c : Thread nD τ).loc cc0_stg2_0) ↦{fullShare} fo))
      ⊢ iprop((after m ρ c ∗ owing c 0
          ∗ (((c : Thread nD τ).loc cc0_stg0_0) ↦{fullShare} xstg m ρ c) ∗ (((c : Thread nD τ).loc cc0_stg1_0) ↦{fullShare} wstg m ρ c)
          ∗ (((c : Thread nD τ).loc cc0_stg2_0) ↦{fullShare} gathered m ρ c) -∗ Q ⟨⟩)
        -∗ wpc c (flow c) Q) := by
  unfold ghost credits positions tokens
  rw [over_slots, rows_eq, rows_eq, around_peer c, around_orig c]
  simp only [over_offsets]
  iintro ⟨⟨#Hrec, ⟨HatB, ⟨HatS0, HatS⟩, HatR0, HatR⟩, HtB, HtR, HtS⟩, ⟨HcB, HcR⟩, #Hlev, Hy, HO, Hx, Hw, Hown, Hrows⟩ Hk
  unfold flow
  -- the signals
  iapply (signals m ρ K c Q (owedSends c offsets) _ offsets) $$ [HO HtB Hrows]
  · isplitr; · iexact Hrec
    isplitl [HO]; · iexact HO
    iapply (Entails.of_eq (offsets_sep _ _))
    isplitl [HtB]; · iexact HtB
    iapply (bigSepL_mono (l := offsets) (Φ := fun d : Fin 15 => rowPts (F := F) c (peer c d) fo) fun d _ => (by iintro H; iexists fo; iexact H)) $$ Hrows
  iintro HO
  unfold owing
  icases HO with ⟨%W, HO⟩
  -- the barrier
  ihave #HB := (records_at m ρ K (c, none)) $$ Hrec
  rw [cellAt_bar]
  icases HB with ⟨HiB, -⟩
  iapply (Rounds.wp_wait_rest_token 𝒱₀ EX (sched m ρ) (c : Thread nD τ) none (κ := K (c, none))
      (wpE_semWait_eq 𝒱₀ (c : Thread nD τ) none Set.univ) (Set.mem_univ _) () (O := owedSends c offsets) (W := W) (R := 0) (m := 0) (T := ∅)
      (by rw [expect_bar]; decide)) $$ [HcB HO HatB]
  · isplitr; · iexact HiB
    isplitl [HcB]; · iexact HcB
    isplitl [HO]; · iexact HO
    isplitr; · iapply (mayWait_bar c); iexact Hlev
    iexact HatB
  iintro ⟨HO, HatB, -, Hpay⟩
  ihave Hland := (Entails.of_eq (((rest_bar m ρ c).trans (orig_to_peer c fun n => iprop(∃ f, rowPts (F := F) n c f))).trans (over_offsets _))) $$ Hpay
  imod (Rounds.cell_close EX (sched m ρ) (Set.mem_univ (K (c, none))) (fun h => h) (R := 0 + 1) (duties_later m ρ (barCell c))) $$ [HatB] with HzB
  · isplitr; · iexact HiB
    iexact HatB
  -- the product and the activation
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  unfold scratchPts
  iapply (wp_load 𝒱₀ (c : Thread nD τ) none Set.univ (m := yM) (Finset.subset_univ _)) $$ Hy; iintro Hy
  iapply (wp_store 𝒱₀ (c : Thread nD τ) none Set.univ (m := yM) (r := yAll) (Mk := Finset.univ) (Finset.subset_univ _)) $$ Hy; iintro Hy
  rw [write_y]
  -- the device's own block
  iapply (own_block m ρ c Q _ fo) $$ [Hy Hown]
  · isplitl [Hy]; · unfold scratchPts act; iexact Hy
    iexact Hown
  iintro ⟨Hy, Hown⟩
  -- the transfers
  unfold scratchPts
  ihave Hy' := (Entails.of_eq (((cols_eq c (act m ρ c)).trans (around_peer c _)).trans (congrArg _ (over_offsets _)))) $$ Hy
  icases Hy' with ⟨Hyown, Hcols⟩
  iapply (sends m ρ K c Q _ offsets) $$ [HO Hcols Hland HtS HtR]
  · isplitr; · iexact Hrec
    isplitl [HO]; · unfold owing; iexists _; iexact HO
    unfold sendNeeds
    iapply (Entails.of_eq (offsets_sep _ _))
    isplitl [Hcols]; · iexact Hcols
    iapply (Entails.of_eq (offsets_sep _ _))
    isplitl [Hland]; · iexact Hland
    iapply (Entails.of_eq (offsets_sep _ _))
    isplitl [HtS]; · iexact HtS
    iexact HtR
  iintro ⟨HO, HcS⟩
  -- the landings
  iapply (waits m ρ K c Q (fun d => recvQ d.succ) (fun d => some (true, d.succ)) (fun d => cellAt_recv c d.succ)
    (fun d => rowPts c (orig c d) (gathered m ρ c)) (fun _ => colM c) (fun d => rowM (orig c d)) (fun d => credit_row _) (fun d => expect_recv m ρ c d)
    (fun d => rest_recv m ρ c d) _ offsets) $$ [HO HcR HatR]
  · isplitr; · iexact Hrec
    isplitl [HO]; · iexact HO
    iapply (Entails.of_eq (offsets_sep _ _))
    isplitl [HcR]; · iexact HcR
    iexact HatR
  iintro ⟨HO, HR⟩
  -- the returns
  iapply (waits m ρ K c Q (fun d => sendQ d.succ) (fun d => some (false, d.succ)) (fun d => cellAt_send c d.succ)
    (fun d => colPts c (peer c d) (act m ρ c)) (fun _ => rowM c) (fun d => colM (peer c d)) (fun d => credit_col _) (fun d => expect_send m ρ c d)
    (fun d => rest_send m ρ c d) _ offsets) $$ [HO HcS HatS]
  · isplitr; · iexact Hrec
    isplitl [HO]; · iexact HO
    iapply (Entails.of_eq (offsets_sep _ _))
    isplitl [HcS]; · iexact HcS
    iexact HatS
  iintro ⟨HO, HS⟩
  -- the two entries nobody used
  ihave #H0 := (records_at m ρ K (c, some (false, 0))) $$ Hrec
  ihave #H1 := (records_at m ρ K (c, some (true, 0))) $$ Hrec
  icases H0 with ⟨Hi0, -⟩
  icases H1 with ⟨Hi1, -⟩
  imod (Rounds.cell_close EX (sched m ρ) (Set.mem_univ (K (c, some (false, 0)))) (fun h => h) (R := 0) (fun r _ => duties_send_zero m ρ c r)) $$ [HatS0] with HzS0
  · isplitr; · iexact Hi0
    iexact HatS0
  imod (Rounds.cell_close EX (sched m ρ) (Set.mem_univ (K (c, some (true, 0)))) (fun h => h) (R := 0) (fun r _ => duties_recv_zero m ρ c r)) $$ [HatR0] with HzR0
  · isplitr; · iexact Hi1
    iexact HatR0
  ihave HR' := (Entails.of_eq (offsets_sep _ _).symm) $$ HR
  icases HR' with ⟨Hrows, HzR⟩
  ihave HS' := (Entails.of_eq (offsets_sep _ _).symm) $$ HS
  icases HS' with ⟨Hcols, HzS⟩
  rw [wp_ret]; imodintro
  iapply Hk
  unfold after scratchPts
  isplitl [Hyown Hcols HzS0 HzR0 HzR HzS HzB]
  · isplitl [Hyown Hcols]
    · iapply (Entails.of_eq (((cols_eq c (act m ρ c)).trans (around_peer c _)).trans (congrArg _ (over_offsets _))).symm)
      isplitl [Hyown] <;> iassumption
    isplitr [HzB]
    · rw [over_slots]
      isplitl [HzS0 HzS]
      · isplitl [HzS0]; · iexact HzS0
        iexact HzS
      isplitl [HzR0]; · iexact HzR0
      iexact HzR
    iexact HzB
  isplitl [HO]; · unfold owing; iexact HO
  isplitl [Hx]; · iexact Hx
  isplitl [Hw]; · iexact Hw
  isplitl [Hown] <;> iassumption

/-- What the pipeline hands the body, -/
def bodyPre (c : Dev nD) : sProp 𝕄 :=
  iprop(before m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and takes from it. -/
def bodyPost (c : Dev nD) : sProp 𝕄 :=
  iprop(after m ρ c ∗ (dats m ρ 0 c).owesAt () t0_0.succ
    ∗ stg c cc0_stg0_0 (xstg m ρ c) ∗ stg c cc0_stg1_0 (wstg m ρ c) ∗ stg c cc0_stg2_0 (gathered m ρ c))

theorem sound_body (c : Dev nD) :
    bodyPre m ρ c ⊢ wp frame (wpE (defs₀ (F := F)) 𝒱₀ (c : Thread nD τ) none) Set.univ
      (cc0_body (F := F) xM (Memref.isWhole_whole _) wM (Memref.isWhole_whole _) oM (Memref.isWhole_whole _) yM (Memref.isWhole_whole _)
        cc0_scratch1 cc0_scratch2) (fun _ => bodyPost m ρ c) := by
  rw [body_flow, wp_deviceId]
  unfold bodyPre before start
  iintro ⟨⟨⟨⟨%K, Hg⟩, Hc, Hlev⟩, ⟨%fy, Hy⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos fetch_x]; rfl
  have hw : g1 = wstg m ρ c := by rw [hg1]; unfold Dat.before; rw [if_pos fetch_w]; rfl
  subst hx hw
  unfold Dat.owesAt Pipeline.owesWithin
  icases Ho with ⟨%W, %hW, HO⟩
  rw [show (dats m ρ 0 c).owed t0_0.castSucc = owed c from rfl]
  iapply (sound_flow m ρ K c g2 fy fun _ => bodyPost m ρ c) $$ [Hg Hc Hlev Hy HO Hx Hw Hout]
  · isplitl [Hg]; · iexact Hg
    isplitl [Hc]; · iexact Hc
    isplitl [Hlev]; · iexact Hlev
    isplitl [Hy]; · iexact Hy
    isplitl [HO]; · unfold owing; iexists W; iexact HO
    isplitl [Hx]; · iexact Hx
    isplitl [Hw]; · iexact Hw
    iexact Hout
  unfold bodyPost Dat.owesAt Pipeline.owesWithin owing
  iintro ⟨Ha, ⟨%W', HO⟩, Hx, Hw, Hout⟩
  rw [show (dats m ρ 0 c).owed t0_0.succ = 0 from rfl]
  isplitl [Ha]; · iexact Ha
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 4000 in
/-- The pipeline's obligation on the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ wp frame (wpE (defs₀ (F := F)) 𝒱₀ (c : Thread nD τ) none) Set.univ
      (cc0_body (F := F) xM (Memref.isWhole_whole _) wM (Memref.isWhole_whole _) oM (Memref.isWhole_whole _) yM (Memref.isWhole_whole _)
        cc0_scratch1 cc0_scratch2) (fun _ => bodyPost m ρ c)
  exact sound_body m ρ c

end Cert.Exchange

end
-- ==== Proof.Run.lean ====
/-
The launch: the cells' ghost state minted and dealt, each token to the device that pays with it, and the run of @main on the
sixteen devices.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

theorem slotFacts : Pipeline.OwnSemFacts cfg0.spec slot := by decide +kernel

theorem semAt_inj : Function.Injective semAt := by decide +kernel
theorem cellAt_inj : Function.Injective cellAt := by
  rintro ⟨c, k⟩ ⟨c', k'⟩ h
  have h1 : c = c' := congrArg (fun g : GSem nD τ sig => g.1.1) h
  have h2 : k = k' := semAt_inj (congrArg Prod.snd h)
  rw [h1, h2]

/-- A device's semaphore and the duty on it, for each offset: its barrier's duty `d`, its landing number `d`, its return number `d`. -/
def dutyAt : Fin 3 × Fin 15 → SemLoc sig × Fin 15
  | (0, d) => (.reg barS, d)
  | (1, d) => (.dma (recvQ d.succ), 0)
  | (2, d) => (.dma (sendQ d.succ), 0)
theorem dutyAt_inj : Function.Injective dutyAt := by decide +kernel
def tokenAt (x : Dev nD × Fin 3 × Fin 15) : GSem nD τ sig × ℕ × Fin 15 := (((x.1 : Thread nD τ), (dutyAt x.2).1), 0, (dutyAt x.2).2)
theorem tokenAt_inj : Function.Injective tokenAt := by
  rintro ⟨c, k⟩ ⟨c', k'⟩ h
  have h1 : c = c' := congrArg (fun g : GSem nD τ sig × ℕ × Fin 15 => g.1.1.1) h
  have h2 : k = k' := dutyAt_inj (Prod.ext (congrArg (fun g : GSem nD τ sig × ℕ × Fin 15 => g.1.2) h) (congrArg (fun g : GSem nD τ sig × ℕ × Fin 15 => g.2.2) h))
  rw [h1, h2]

def allCells : Finset (GSem nD τ sig) := Finset.univ.map ⟨cellAt, cellAt_inj⟩
def allTokens : Finset (GSem nD τ sig × ℕ × Fin 15) := Finset.univ.map ⟨tokenAt, tokenAt_inj⟩
def ghost₀ : UU := (initOf (Pipeline.cells cfgs cellOf_inj) (Pipeline.launchToks cfgs cellOf_inj), initOf allCells allTokens)

/-- The tokens of the duties on device `c`'s own cells. -/
def minted (c : Dev nD) : sProp 𝕄 :=
  iprop((bigSep Finset.univ fun d : Fin 15 => dutyTok EX (barCell c) 0 d)
    ∗ (bigSep Finset.univ fun d : Fin 15 => dutyTok EX (recvCell c d.succ) 0 0)
    ∗ (bigSep Finset.univ fun d : Fin 15 => dutyTok EX (sendCell c d.succ) 0 0))
/-- What is dealt to device `c` first: its own cells and the tokens on them; -/
def dealt (c : Dev nD) : sProp 𝕄 :=
  iprop((bigSep Finset.univ fun k : Which => roundState EX (sched m ρ) (cellAt (c, k)) 0)
    ∗ (bigSep Finset.univ fun k : Which => reached EX (cellAt (c, k)) 0)
    ∗ (bigSep Finset.univ fun k : Which => atPos EX (cellAt (c, k)) 0 ∅ 0) ∗ minted c)
/-- and in the end. -/
def held (c : Dev nD) : sProp 𝕄 := iprop(∃ K, ghost m ρ K c)

omit [FloatOps F] in
theorem over_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A device's cells: the barrier's and the thirty-two of the two arrays. -/
theorem over_which (Φ : Which → sProp 𝕄) : bigSep Finset.univ Φ = iprop(Φ none ∗ bigSep Finset.univ fun p => Φ (some p)) := by
  rw [bigSep_univ_at _ none, show (Finset.univ : Finset Which).erase none = Finset.univ.map ⟨some, Option.some_injective _⟩ by decide +kernel, bigSep_map]; rfl

theorem mint : BI.own (EX (initOf allCells allTokens)) ⊢ (|==> bigSep Finset.univ (dealt m ρ) : sProp 𝕄) := by
  have hX (Φ : GSem nD τ sig → sProp 𝕄) : bigSep allCells Φ = bigSep Finset.univ fun c : Dev nD => bigSep Finset.univ fun k : Which => Φ (cellAt (c, k)) := by
    unfold allCells; rw [bigSep_map, bigSep_univ_prod]; rfl
  have hT : bigSep allTokens (fun x => (dutyTok EX x.1 x.2.1 x.2.2 : sProp 𝕄)) = bigSep Finset.univ fun c : Dev nD => minted c := by
    unfold allTokens; rw [bigSep_map, bigSep_univ_prod]
    exact bigSep_congr fun c _ => by rw [bigSep_univ_prod, over_three]; rfl
  iintro HX
  imod (Rounds.fund EX (sched m ρ) allCells allTokens) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold dealt; simp only [bigSep_sep']
  isplitl [Hst']; · iexact Hst'
  isplitl [Hr']; · iexact Hr'
  isplitl [Hat']; · iexact Hat'
  iexact Htok'

/-! ## The semaphores at launch -/

omit [FloatOps F] in
theorem unscoped_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem own_eq (c : Dev nD) : (Pipeline.ownSems0 (Ix := Unit) (Name := ℕ) (U := UU) (Lvl := ℕ) (Val := Elt F) (τ := τ) slot c : sProp 𝕄)
    = bigSep Finset.univ fun p : Bool × Fin 16 => semVal (cellAt (c, some p)) 0 := rfl

/-- One device's cells opened: each gets an invariant at some name. -/
theorem open_cells (c : Dev nD) :
    iprop(Pipeline.ownSems0 (Ix := Unit) (Name := ℕ) (U := UU) (Lvl := ℕ) (Val := Elt F) (τ := τ) slot c ∗ unscopedSems0 c ∗ dealt m ρ c)
      ⊢ |={Set.univ}=> iprop((bigSep Finset.univ fun k : Which => iprop(∃ κ : ℕ, cellInv EX (sched m ρ) κ (cellAt (c, k))))
          ∗ (bigSep Finset.univ fun k : Which => reached EX (cellAt (c, k)) 0)
          ∗ (bigSep Finset.univ fun k : Which => atPos EX (cellAt (c, k)) 0 ∅ 0) ∗ minted c) := by
  unfold dealt
  rw [own_eq, unscoped_eq]
  iintro ⟨Hos, Hus, Hst, Hr, Hat, Htok⟩
  imod (show iprop((bigSep Finset.univ fun k : Which => semVal (cellAt (c, k)) 0) ∗ bigSep Finset.univ fun k : Which => roundState EX (sched m ρ) (cellAt (c, k)) 0)
      ⊢ (|={Set.univ}=> bigSep Finset.univ fun k : Which => iprop(∃ κ : ℕ, cellInv EX (sched m ρ) κ (cellAt (c, k))) : sProp 𝕄) from by
        rw [← bigSep_sep']
        exact (bigSep_mono fun k _ => (Rounds.body_intro EX (sched m ρ) (cellAt (c, k))).trans inv_alloc).trans (bigSep_fupd _ _)) $$ [Hos Hus Hst] with Hinv
  · isplitl [Hos Hus]
    · rw [over_which]
      isplitl [Hus]; · iexact Hus
      iexact Hos
    iexact Hst
  imodintro
  isplitl [Hinv]; · iexact Hinv
  isplitl [Hr]; · iexact Hr
  isplitl [Hat]; · iexact Hat
  iexact Htok

/-! ## The tokens dealt to those who pay with them -/

/-- A device and an offset, to the device that offset after it. -/
def step : Dev nD × Fin 15 ≃ Dev nD × Fin 15 where
  toFun x := (peer x.1 x.2, x.2)
  invFun x := (orig x.1 x.2, x.2)
  left_inv x := Prod.ext (orig_peer _ _) rfl
  right_inv x := Prod.ext (peer_orig _ _) rfl

omit [FloatOps F] in
theorem stepped (Φ : Dev nD → Fin 15 → sProp 𝕄) :
    (bigSep Finset.univ fun c : Dev nD => bigSep Finset.univ fun d : Fin 15 => Φ c d)
      = bigSep Finset.univ fun c : Dev nD => bigSep Finset.univ fun d : Fin 15 => Φ (peer c d) d := by
  rw [← bigSep_univ_prod (fun x : Dev nD × Fin 15 => Φ x.1 x.2), bigSep_univ_equiv step, bigSep_univ_prod]; rfl

omit [FloatOps F] in
theorem deal : (bigSep Finset.univ fun c : Dev nD => (minted c : sProp 𝕄)) = bigSep Finset.univ fun c : Dev nD => tokens c := by
  unfold minted tokens
  rw [bigSep_sep', bigSep_sep', bigSep_sep', bigSep_sep', stepped (fun c d => dutyTok EX (barCell c) 0 d), stepped (fun c d => dutyTok EX (recvCell c d.succ) 0 0)]

omit [FloatOps F] in
theorem positions_eq (c : Dev nD) : (positions c : sProp 𝕄) = bigSep Finset.univ fun k : Which => atPos EX (cellAt (c, k)) 0 ∅ 0 := by
  rw [over_which]; rfl

omit [FloatOps F] in
/-- Something persistent can be shared out. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather :
    (bigSep Finset.univ fun c : Dev nD => iprop((bigSep Finset.univ fun k : Which => iprop(∃ κ : ℕ, cellInv EX (sched m ρ) κ (cellAt (c, k))))
          ∗ (bigSep Finset.univ fun k : Which => reached EX (cellAt (c, k)) 0)
          ∗ (bigSep Finset.univ fun k : Which => atPos EX (cellAt (c, k)) 0 ∅ 0) ∗ minted c) : sProp 𝕄)
      ⊢ bigSep Finset.univ (held m ρ) := by
  rw [bigSep_sep', bigSep_sep', bigSep_sep', deal, ← bigSep_univ_prod (fun x : Dev nD × Which => iprop(∃ κ : ℕ, cellInv EX (sched m ρ) κ (cellAt x))),
    ← bigSep_univ_prod (fun x : Dev nD × Which => (reached EX (cellAt x) 0 : sProp 𝕄))]
  iintro ⟨HI, HR, Hat, Htok⟩
  ihave HK := (BI.bigSep_exists_pi Finset.univ (fun (x : Dev nD × Which) (κ : ℕ) => (cellInv EX (sched m ρ) κ (cellAt x) : sProp 𝕄))) $$ HI
  icases HK with ⟨%K, HI⟩
  ihave #Hrec := (Entails.of_eq (show _ = records m ρ K from (bigSep_sep' _ _ _).symm)) $$ [HI HR]
  · isplitl [HI]; · iexact HI
    iexact HR
  iapply (share_out (R := records m ρ K) (Φ := fun c => iprop(positions c ∗ tokens c)) fun c _ => (by
    unfold held ghost; iintro H; iexists K; iexact H))
  isplitr; · iexact Hrec
  rw [bigSep_sep']
  isplitl [Hat]
  · rw [bigSep_congr fun c _ => positions_eq c]; iexact Hat
  iexact Htok

/-- All devices' semaphores and first deal, to what each holds in the end. -/
theorem glob : (bigSep Finset.univ fun c => iprop(Pipeline.ownSems0 (Ix := Unit) (Name := ℕ) (U := UU) (Lvl := ℕ) (Val := Elt F) (τ := τ) slot c ∗ unscopedSems0 c ∗ dealt m ρ c) : sProp 𝕄)
    ⊢ |={Set.univ}=> bigSep Finset.univ (held m ρ) :=
  ((bigSep_mono fun c _ => open_cells m ρ c).trans (bigSep_fupd _ _)).trans (BI.fupd_mono (gather m ρ))

/-! ## The credit at launch -/

theorem sum_at (l : List (Fin 15)) (f : Fin 15 → CellTallies nD τ sig Unit) (g : GSem nD τ sig) :
    (l.map f).sum g () = (l.map fun d => f d g ()).sum := by
  induction l with
  | nil => rfl
  | cons d l ih => rw [List.map_cons, List.sum_cons, Pi.add_apply, Finsupp.add_apply, ih]; rfl

/-- What device `e` owes a cell: a block's credit for each offset it is the landing of, a unit for each it is the barrier of. -/
theorem owed_at (e : Dev nD) (g : GSem nD τ sig) : owed e g ()
    = (offsets.map fun d => if g = recvCell (peer e d) d.succ then credit else 0).sum + (offsets.map fun d => if g = barCell (peer e d) then 1 else 0).sum := by
  unfold owed owedSignals owedSends
  rw [Pi.add_apply, Finsupp.add_apply, sum_at, sum_at]
  simp only [tallyAt_apply, and_true]

theorem bar_eq_iff (a b : Dev nD) : barCell a = barCell b ↔ a = b := ⟨fun h => congrArg (fun g : GSem nD τ sig => g.1.1) h, fun h => h ▸ rfl⟩
theorem recv_eq_iff (a b : Dev nD) (d d' : Fin 15) : recvCell a d.succ = recvCell b d'.succ ↔ a = b ∧ d = d' :=
  ⟨fun h => ⟨congrArg (fun g : GSem nD τ sig => g.1.1) h, (show ∀ d d' : Fin 15, (SemLoc.dma (recvQ d.succ) : SemLoc sig) = .dma (recvQ d'.succ) → d = d' by decide +kernel) d d' (congrArg Prod.snd h)⟩,
    fun h => h.1 ▸ h.2 ▸ rfl⟩
theorem bar_ne_recv (a b : Dev nD) (s : Fin 16) : barCell a ≠ recvCell b s := fun h => by have := congrArg Prod.snd h; cases this

theorem units (c : Dev nD) : ∑ e : Dev nD, owed e (barCell c) () = 15 := by
  simp only [owed_at, bar_eq_iff, bar_ne_recv, if_false]
  revert c; decide +kernel

theorem landings (c : Dev nD) (d : Fin 15) : ∑ e : Dev nD, owed e (recvCell c d.succ) () = credit := by
  have h : ∀ (c : Dev nD) (d : Fin 15), ∑ e : Dev nD, (offsets.map fun d' => if c = peer e d' ∧ d = d' then 1 else 0).sum = 1 := by decide +kernel
  have hz : ∀ l : List (Fin 15), (l.map fun _ => 0).sum = 0 := fun l => by simp
  have hn (e : Dev nD) (l : List (Fin 15)) : (l.map fun d' => if c = peer e d' ∧ d = d' then credit else 0).sum
      = credit * (l.map fun d' => if c = peer e d' ∧ d = d' then 1 else 0).sum := by
    rw [← List.sum_map_mul_left]; simp only [mul_ite, Nat.mul_one, Nat.mul_zero]
  simp only [owed_at, recv_eq_iff, fun a b s => (bar_ne_recv a b s).symm, if_false, hz, Nat.add_zero]
  rw [Finset.sum_congr rfl fun e _ => hn e offsets, ← Finset.mul_sum, h c d, Nat.mul_one]

theorem launch_credit (g : GSem nD τ sig) (k : ℕ) (h : ∑ e : Dev nD, owed e g () = k) :
    tallyOn g (launchCredit (Pipeline.owing owed) 0 g) = (tallyAt g () k : CellTallies nD τ sig Unit) := by
  unfold tallyAt; refine congrArg _ (Finsupp.ext fun u => ?_); cases u
  rw [Pipeline.launchCredit_owing, Finsupp.single_eq_same, h]

/-- The launch's credit holds what the body will wait for. -/
theorem credits_intro (c : Dev nD) : (Pipeline.launchCred owed c : sProp 𝕄) ⊢ credits c := by
  unfold Pipeline.launchCred credits
  rw [bigSep_univ_at _ (SemLoc.reg barS), launch_credit _ 15 (units c)]
  refine sep_mono_right ?_
  have hi : Function.Injective fun d : Fin 15 => (SemLoc.dma (recvQ d.succ) : SemLoc sig) := by decide +kernel
  refine (bigSep_subset (t := Finset.univ.map ⟨_, hi⟩) fun sm hsm => ?_).trans ?_
  · obtain ⟨d, -, rfl⟩ := Finset.mem_map.mp hsm
    exact Finset.mem_erase.mpr ⟨(fun h => by cases h), Finset.mem_univ _⟩
  · rw [bigSep_map]
    exact bigSep_mono fun d _ => Entails.of_eq (congrArg cred (launch_credit _ _ (landings c d)))

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts levSet lev
        ∗ Pipeline.launchCred owed c ∗ prngReg c (ρ c) ∗ held m ρ c)
      ⊢ |={Set.univ}=> iprop(start m ρ c ∗ emp) := by
  iintro ⟨-, Hlev, Hcr, -, HG⟩
  ihave Hc := (credits_intro (F := F) c) $$ Hcr
  imodintro
  unfold start held
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratchPts
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 slot c ∗ Pipeline.scopedRest cfg0.spec c) := by
  rw [show (dats m ρ 0 c).Φ (Fin.last cfg0.N) = after m ρ c from rfl, scopedRest0_eq, own_eq, unscoped_eq]
  unfold after scratchPts
  iintro ⟨Hr, Hz, HzB⟩
  isplitl [HzB]; · iexact HzB
  isplitl [Hz]; · iexact Hz
  iexists (act m ρ c); iexact Hr

theorem staging_waits (c : Dev nD) : (levAts levSet lev : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- Every device's arrays as the pipeline leaves them. -/
def Final : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- From any memory, every execution of @main on the sixteen devices ends, leaving the arrays as `Final` says and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ slotFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed) (howed₀ := fun _ => rfl) (howedN := fun _ => rfl)
    (L := levSet) (lv := lev) (hL := levSet_of_ne) (hwaits := staging_waits m ρ)
    (G := dealt m ρ) (G' := held m ρ) (u₀ := ghost₀)
    (hu₀ := by
      unfold ghost₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays -/

/-- The result array holds what the body left in its staging buffer. -/
theorem result_at (c : Dev nD) : (dats m ρ 0 c).arrAt (2 : Fin 3) cfg0.N = gathered m ρ c := by
  rw [show cfg0.N = (t0_0 : Fin cfg0.N).val + 1 from rfl, (dats m ρ 0 c).arrAt_succ (2 : Fin 3) t0_0,
    show (cfg0.win (2 : Fin 3)).flush t0_0 = true from rfl, if_pos rfl]
  have h := View.read_write_univ (Val := Elt F) (v := ((cfg0.win (2 : Fin 3)).blk t0_0).view) ((dats m ρ 0 c).arrAt (2 : Fin 3) t0_0.val) ((dats m ρ 0 c).flushed (2 : Fin 3) t0_0)
  have hr (f : Buf (Elt F) ((cfg0.win (2 : Fin 3)).arr.view.loc (c : Thread nD τ))) : ((cfg0.win (2 : Fin 3)).blk t0_0).view.read (Elt F) f = f :=
    Memref.read_access_unit_zero (Elt F) main_v1 (off := fun a => win0_2.index t0_0 a * main_v1.ty.shape.size a)
      (funext fun _ => Nat.zero_mul _) (fun a => by fin_cases a <;> decide) f
  exact (hr _).symm.trans (h.trans rfl)

/-- The two operands are staged whole: the first staging buffer holds the device's rows of `x`, -/
theorem xstg_whole (c : Dev nD) : xstg m ρ c = m ((c : Thread nD τ).loc main_arg0) :=
  Memref.read_access_unit_zero (Elt F) main_arg0 (off := fun a => win0_0.index t0_0 a * main_arg0.ty.shape.size a)
    (funext fun _ => Nat.zero_mul _) (fun a => by fin_cases a <;> decide) _

/-- and the second holds all of `w`. -/
theorem wstg_whole (c : Dev nD) : wstg m ρ c = m ((c : Thread nD τ).loc main_arg1) :=
  Memref.read_access_unit_zero (Elt F) main_arg1 (off := fun a => win0_1.index t0_0 a * main_arg1.ty.shape.size a)
    (funext fun _ => Nat.zero_mul _) (fun a => by fin_cases a <;> decide) _

/-- Every device ends with `gathered` in its result array, its two arguments unchanged, and every semaphore at zero. -/
theorem run_result : θ_run defs (onTc (τ := τ) (main (F := F))) (s₀ m ρ) (fun r =>
    (∀ c : Dev nD, r.2.mem ((c : Thread nD τ).loc main_v1) = gathered m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (result_at m ρ c),
    (h.1 c (0 : Fin 3)).trans ((dats (F := F) m ρ 0 c).arrAt_in (0 : Fin 3) rfl _),
    (h.1 c (1 : Fin 3)).trans ((dats (F := F) m ρ 0 c).arrAt_in (1 : Fin 3) rfl _)⟩, h.2⟩) (run_main (F := F) m ρ)

end Cert.Exchange

end
-- ==== Proof.Values.lean ====
/-
The values: over the extended reals every device ends with its column block of the activation of the whole product, and
that is what the references compute.
-/
module

public import proofs.«01_k».proof.Proof.Run
public import proofs.«01_k».proof.Proof.Gen.ReferenceIdeal.Run
public import proofs.«01_k».proof.Proof.Gen.UnclippedIdeal.Run
public import proofs.«01_k».proof.Proof.Gen.Pre_within_clip_KernelIdeal
public import Idealize.ShloMosaic.Lib.IdealHost
public import Idealize.ShloMosaic.Lib.MatmulPlain
public import Idealize.ShloMosaic.Lib.StackMember
public import Idealize.ShloMosaic.Lib.Layout

@[expose] public section

noncomputable section

namespace Cert.Exchange

open Idealize.ShloMosaic Idealize.ShloMosaic.TcCoe Idealize.ShloMosaic.ValueIdx Idealize.SL.Sem
open scoped BigOperators

/-! ## The activation at one element -/

/-- An exponential is never negative, -/
theorem exp_nonneg (x : EReal) : 0 ≤ Ideal.exp x := by
  induction x using EReal.rec with
  | bot => exact le_of_eq rfl
  | coe r => exact EReal.coe_nonneg.2 (Real.exp_pos r).le
  | top => exact le_top

/-- so one more than it is not zero. -/
theorem one_add_exp_ne (x : EReal) : 1 + Ideal.exp x ≠ 0 :=
  ne_of_gt (lt_of_lt_of_le zero_lt_one (le_add_of_nonneg_right (exp_nonneg x)))

/-- The activation of one number: `y / (1 + exp (-y))`. -/
def silu (y : EReal) : EReal := Ideal.div y (1 + Ideal.exp (-y))

/-- The kernel multiplies by the logistic function instead, which is the same number. -/
theorem mul_logistic (y : EReal) : y * Ideal.logistic y = silu y := Ideal.mul_one_div (one_add_exp_ne (-y))

/-- The pattern of the upper end of the clip is sixty, -/
theorem bits_sixty : Ideal.ofBits .f32 0x42700000#32 = ((60 : ℝ) : EReal) := by
  simp [Ideal.ofBits, Ideal.ieee, -EReal.coe_mul]; norm_num

/-- and the pattern of its lower end is minus sixty. -/
theorem bits_neg_sixty : Ideal.ofBits .f32 0xC2700000#32 = ((-60 : ℝ) : EReal) := by
  simp [Ideal.ofBits, Ideal.ieee, -EReal.coe_mul, -EReal.coe_neg]; norm_num

/-- A number of magnitude at most sixty is its own clip. -/
theorem clip_within {y : EReal} (h : max y (-y) ≤ ((60 : ℝ) : EReal)) :
    min ((60 : ℝ) : EReal) (max ((-60 : ℝ) : EReal) y) = y := by
  have hl : ((-60 : ℝ) : EReal) ≤ y := by
    rw [EReal.coe_neg]
    exact EReal.neg_le.1 (le_trans (le_max_right _ _) h)
  rw [max_eq_right hl, min_eq_right (le_trans (le_max_left _ _) h)]

/-! ## The product at one element -/

/-- Entry `(r, n)` of the product of `R` rows by `w`. -/
def entry {R : ℕ} (x : (⟨2, ![R, 4096]⟩ : Shape).Idx → EReal) (w : (⟨2, ![4096, 2048]⟩ : Shape).Idx → EReal) (r : Fin R)
    (n : Fin 2048) : EReal := ∑ k : Fin 4096, x (ix2 r k) * w (ix2 k n)

/-- The activation of the whole product. -/
def whole (x : (⟨2, ![4096, 4096]⟩ : Shape).Idx → EReal) (w : (⟨2, ![4096, 2048]⟩ : Shape).Idx → EReal) :
    (⟨2, ![4096, 2048]⟩ : Shape).Idx → EReal := fun i => silu (entry x w (i 0) (i 1))

/-- A block of rows times `w` is the block of rows of the whole product. -/
theorem entry_block (c : Fin 16) (x : (⟨2, ![4096, 4096]⟩ : Shape).Idx → EReal)
    (w : (⟨2, ![4096, 2048]⟩ : Shape).Idx → EReal) (r : Fin 256) (R : Fin 4096) (n : Fin 2048) (h : R.val = c.val * 256 + r.val) :
    entry (Layout.block ⟨2, ![256, 4096]⟩ ⟨2, ![4096, 4096]⟩ 0 16 c x) w r n = entry x w R n := by
  refine Finset.sum_congr rfl fun k _ => congrArg (· * w (ix2 k n)) (congrArg x (funext fun a => Fin.ext ?_))
  match a with
  | ⟨0, _⟩ => exact h.symm
  | ⟨1, _⟩ => rfl

/-! ## The kernel -/

section Kernel

open Cert.KernelIdeal Cert.KernelIdeal.Gen

variable (m : (ℓ : Loc nD τ sig) → Buf (Elt Ideal) ℓ) (ρ : Dev nD → PrngReg)

/-- What the body stores in its scratch buffer, element by element. -/
theorem pay_apply (x : FVec Ideal S256x4096 .bf16) (w : FVec Ideal S4096x2048 .bf16) (r : Fin 256) (n : Fin 2048) :
    k0_pay1 (F := Ideal) x w (ix2 r n) = silu (entry x w r n) := by
  have hm : matmul dot_S256x4096_S4096x2048_S256x2048_1_0_0_1_n_n none x w (constant S256x2048 .f32 0x00000000#32) (ix2 r n)
      = entry x w r n := by
    refine (Ideal.matmul_plain_apply (M := 256) (K := 4096) (N := 2048) none x w _ r n).trans ?_
    rw [show (constant S256x2048 .f32 0x00000000#32 : FVec Ideal S256x2048 .f32) (ix2 r n) = 0 from Ideal.ofBits_zero_f32, zero_add]
    rfl
  rw [← mul_logistic, ← hm]
  unfold k0_pay1
  simp only [shapeCast_self]
  rfl

/-- With `x` dealt by rows and `w` copied, every device gathers its column block of the activation of the product. -/
theorem gathered_block (x : (⟨2, ![4096, 4096]⟩ : Shape).Idx → EReal) (w : (⟨2, ![4096, 2048]⟩ : Shape).Idx → EReal)
    (h : ∀ c : Dev nD, m ((c : Thread nD τ).loc main_arg0) = Layout.block ⟨2, ![256, 4096]⟩ ⟨2, ![4096, 4096]⟩ 0 16 c x
      ∧ m ((c : Thread nD τ).loc main_arg1) = w) (c : Dev nD) :
    gathered m ρ c = Layout.block ⟨2, ![4096, 128]⟩ ⟨2, ![4096, 2048]⟩ 1 16 c (whole x w) := by
  funext i
  have ha : gathered m ρ c i = k0_pay1 (F := Ideal) (Layout.block ⟨2, ![256, 4096]⟩ ⟨2, ![4096, 4096]⟩ 0 16 (rowDev i) x) w (srcIdx c i) := by
    show k0_pay1 (F := Ideal) (xstg m ρ (rowDev i)) (wstg m ρ (rowDev i)) (srcIdx c i) = _
    rw [xstg_whole, wstg_whole, (h (rowDev i)).1, (h (rowDev i)).2]
  refine ha.trans ((congrArg _ (eq_ix2 (srcIdx c i))).trans ((pay_apply _ w (srcIdx c i 0) (srcIdx c i 1)).trans ?_))
  refine congrArg silu ((entry_block (rowDev i) x w (srcIdx c i 0) ⟨(i 0).val, (i 0).isLt⟩ (srcIdx c i 1) ?_).trans
    (congrArg₂ (entry x w) (Fin.ext rfl) (Fin.ext ?_)))
  · show (i 0).val = (i 0).val / 256 * 256 + (i 0).val % 256
    omega
  · show 128 * c.val + (i 1).val = c.val * 128 + (i 1).val
    omega

/-- So it ends, from any memory holding `x` by rows and `w` on every device. -/
theorem run_values (x : (⟨2, ![4096, 4096]⟩ : Shape).Idx → EReal) (w : (⟨2, ![4096, 2048]⟩ : Shape).Idx → EReal)
    (h : ∀ c : Dev nD, m ((c : Thread nD τ).loc main_arg0) = Layout.block ⟨2, ![256, 4096]⟩ ⟨2, ![4096, 4096]⟩ 0 16 c x
      ∧ m ((c : Thread nD τ).loc main_arg1) = w) :
    θ_run (defs (F := Ideal)) (onTc (τ := τ) (main (F := Ideal))) ⟨m, fun _ => 0, ρ⟩ (fun r => ∀ c : Dev nD,
      r.2.mem ((c : Thread nD τ).loc main_v1) = Layout.block ⟨2, ![4096, 128]⟩ ⟨2, ![4096, 2048]⟩ 1 16 c (whole x w)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ hr c => ⟨(hr.1 c).1.trans (gathered_block m ρ x w h c), (hr.1 c).2⟩) (run_result (F := Ideal) m ρ)

end Kernel

/-! ## The references -/

/-- The host's product of `R` rows by `w`, element by element. -/
theorem host_apply {R : ℕ} {φ ψ : FTy} (x : FVec Ideal ⟨2, ![R, 4096]⟩ φ) (w : FVec Ideal ⟨2, ![4096, 2048]⟩ ψ) (r : Fin R) (n : Fin 2048) :
    Host.dotGeneral (DotDims.plain R 4096 2048) none x w (ix2 r n) = entry x w r n :=
  StackMember.dotGeneral_plain_apply none x w r n

/-- The reference without its clip computes the activation of the whole product. -/
theorem unclipped_eq (x : FVec Ideal ⟨2, ![4096, 4096]⟩ .bf16) (w : FVec Ideal ⟨2, ![4096, 2048]⟩ .bf16) (hb) (he) :
    Host.divf (Host.dotGeneral (DotDims.plain 4096 4096 2048) none (extf .f32 x he) (extf .f32 w he))
      (addf (broadcastInDim ⟨2, ![4096, 2048]⟩ ![] hb (constant ⟨0, ![]⟩ .f32 0x3F800000#32))
        (Host.exp (Host.negf (Host.dotGeneral (DotDims.plain 4096 4096 2048) none (extf .f32 x he) (extf .f32 w he))))) = whole x w := by
  have hp : Host.dotGeneral (DotDims.plain 4096 4096 2048) none (extf .f32 x he) (extf .f32 w he) = fun i => entry x w (i 0) (i 1) :=
    funext fun i => (congrArg _ (eq_ix2 i)).trans (host_apply (extf .f32 x he) (extf .f32 w he) (i 0) (i 1))
  rw [hp]
  funext i
  show Ideal.div (entry x w (i 0) (i 1)) (Ideal.ofBits .f32 0x3F800000#32 + Ideal.exp (-entry x w (i 0) (i 1))) = _
  rw [Ideal.ofBits_one_f32]
  rfl

/-- The reference with its clip computes the same wherever the product stays within the clip. -/
theorem clipped_eq (x : FVec Ideal ⟨2, ![4096, 4096]⟩ .bf16) (w : FVec Ideal ⟨2, ![4096, 2048]⟩ .bf16) (hb) (he)
    (h : ∀ r n, max (entry x w r n) (-entry x w r n) ≤ ((60 : ℝ) : EReal)) :
    Host.divf (Host.dotGeneral (DotDims.plain 4096 4096 2048) none (extf .f32 x he) (extf .f32 w he))
      (addf (broadcastInDim ⟨2, ![4096, 2048]⟩ ![] hb (constant ⟨0, ![]⟩ .f32 0x3F800000#32))
        (Host.exp (Host.negf (minimumf (broadcastInDim ⟨2, ![4096, 2048]⟩ ![] hb (id (constant ⟨0, ![]⟩ .f32 0x42700000#32)))
          (maximumf (broadcastInDim ⟨2, ![4096, 2048]⟩ ![] hb (id (constant ⟨0, ![]⟩ .f32 0xC2700000#32)))
            (Host.dotGeneral (DotDims.plain 4096 4096 2048) none (extf .f32 x he) (extf .f32 w he))))))) = whole x w := by
  have hc : minimumf (broadcastInDim ⟨2, ![4096, 2048]⟩ ![] hb (id (constant ⟨0, ![]⟩ .f32 0x42700000#32)))
      (maximumf (broadcastInDim ⟨2, ![4096, 2048]⟩ ![] hb (id (constant ⟨0, ![]⟩ .f32 0xC2700000#32)))
        (Host.dotGeneral (DotDims.plain 4096 4096 2048) none (extf .f32 x he) (extf .f32 w he)))
      = Host.dotGeneral (DotDims.plain 4096 4096 2048) none (extf .f32 x he) (extf .f32 w he) := by
    funext i
    show min (Ideal.ofBits .f32 0x42700000#32) (max (Ideal.ofBits .f32 0xC2700000#32) _) = _
    rw [bits_sixty, bits_neg_sixty]
    refine clip_within ?_
    rw [eq_ix2 i]
    exact (host_apply (extf .f32 x he) (extf .f32 w he) (i 0) (i 1)).symm ▸ h (i 0) (i 1)
  rw [hc]
  exact unclipped_eq x w hb he

/-- The predicate's meaning: on a device's rows every entry of the product has magnitude at most sixty. -/
theorem within (x : FVec Ideal ⟨2, ![256, 4096]⟩ .bf16) (w : FVec Ideal ⟨2, ![4096, 2048]⟩ .bf16)
    (h : Cert.Pre_within_clip_KernelIdeal.fn (F := Ideal) x w = fun _ => 1#1) (r : Fin 256) (n : Fin 2048) :
    max (entry x w r n) (-entry x w r n) ≤ ((60 : ℝ) : EReal) := by
  have hi := congrFun h (ix2 r n)
  change Ideal.cmp .ole (max (Host.dotGeneral (DotDims.plain 256 4096 2048) none (x : FVec Ideal _ .f32) (w : FVec Ideal _ .f32) (ix2 r n))
    (-Host.dotGeneral (DotDims.plain 256 4096 2048) none (x : FVec Ideal _ .f32) (w : FVec Ideal _ .f32) (ix2 r n))) (Ideal.ofBits .f32 0x42700000#32) = 1#1 at hi
  rw [host_apply, bits_sixty] at hi
  by_contra hn
  rw [Ideal.cmp] at hi
  simp only [hn, decide_false] at hi
  exact absurd hi (by decide)

/-- If it holds of every device's block of rows, every entry of the whole product has magnitude at most sixty. -/
theorem within_whole (x : (⟨2, ![4096, 4096]⟩ : Shape).Idx → EReal) (w : (⟨2, ![4096, 2048]⟩ : Shape).Idx → EReal)
    (h : ∀ c : Fin 16, Cert.Pre_within_clip_KernelIdeal.fn (F := Ideal)
      (Layout.block ⟨2, ![256, 4096]⟩ ⟨2, ![4096, 4096]⟩ 0 16 c x) w = fun _ => 1#1) (r : Fin 4096) (n : Fin 2048) :
    max (entry x w r n) (-entry x w r n) ≤ ((60 : ℝ) : EReal) := by
  have hr := r.isLt
  have := within _ w (h ⟨r.val / 256, by omega⟩) ⟨r.val % 256, Nat.mod_lt _ (by decide)⟩ n
  rwa [entry_block _ x w _ r n (by show r.val = r.val / 256 * 256 + r.val % 256; omega)] at this

end Cert.Exchange

end
-- ==== Proof.lean ====
/-
The certificate's claims, from the run of the kernel (Proof/Run.lean), the runs of the two references and the values
(Proof/Values.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_clip_KernelIdeal
public import proofs.«01_k».proof.Proof.Gen.Pre_within_clip_ReferenceIdeal
public import proofs.«01_k».proof.Proof.Values

@[expose] public section

noncomputable section

namespace Cert.Proof

open Idealize.ShloMosaic Idealize.ShloMosaic.TcCoe Idealize.SL.Sem Cert.Exchange

/-- The kernel idealized ends from any memory, its arguments unchanged and every counter at zero. -/
theorem frame_ideal : Cert.quiescent_KernelIdeal := fun m ρ _ =>
  (θ_run Cert.KernelIdeal.defs _ _).mono (fun _ h => ⟨fun c => (h.1 c).2, h.2⟩) (run_result (F := Ideal) m ρ)

/-- The two printed kernels are one text, so their body tables are one, -/
theorem bodies_eq {F : FTy → Type} [FloatOps F] : Cert.Kernel.defs₀ (F := F) = Cert.KernelIdeal.defs₀ (F := F) :=
  congrArg Defs.onTc (funext fun l => funext fun a => by
    match l, a with
    | 0, (t, s) => rfl)

/-- and so are the tables with the launch in them. -/
theorem defs_eq {F : FTy → Type} [FloatOps F] : Cert.Kernel.defs (F := F) = Cert.KernelIdeal.defs (F := F) :=
  congrArg (Pipeline.defs Cert.KernelIdeal.pcfgs) bodies_eq

/-- The kernel over the machine's floats ends in the same way. -/
theorem frame_kernel : Cert.quiescent_Kernel := by
  intro m ρ _
  rw [defs_eq]
  exact (θ_run (Cert.KernelIdeal.defs (F := Bits)) _ _).mono (fun _ h => ⟨fun c => (h.1 c).2, h.2⟩) (run_result (F := Bits) m ρ)

/-- The reference ends from any memory, its arguments unchanged and every counter at zero, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and so does the reference without its clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The kernel's result is the clipped reference's, dealt by columns, where every device's product stays within the clip. -/
theorem value_reference : Cert.algebraic_KernelIdeal_ReferenceIdeal_pre_within_clip_KernelIdeal := fun m ρ m' ρ' hp h =>
  ⟨_, run_values m ρ _ _ h, (θ_run Cert.ReferenceIdeal.defs _ _).mono (fun _ hr =>
    ⟨(hr 0).1.trans (clipped_eq _ _ _ _ (within_whole _ _ fun c => by
      have hc := hp c
      rwa [(h c).1, (h c).2] at hc)), (hr 0).2⟩) (Cert.ReferenceIdeal.Value.run (F := Ideal) m' ρ')⟩

/-- The kernel's result is the unclipped reference's, dealt by columns, from any memory. -/
theorem value_unclipped : Cert.algebraic_KernelIdeal_UnclippedIdeal := fun m ρ m' ρ' _ h =>
  ⟨_, run_values m ρ _ _ h, (θ_run Cert.UnclippedIdeal.defs _ _).mono (fun _ hr =>
    ⟨(hr 0).1.trans (unclipped_eq _ _ _ _), (hr 0).2⟩) (Cert.UnclippedIdeal.Value.run (F := Ideal) m' ρ')⟩

theorem claim : Cert.Claim :=
  ⟨Cert.Kernel.Gen.facts, Cert.KernelIdeal.Gen.facts, Cert.ReferenceIdeal.Gen.facts, Cert.UnclippedIdeal.Gen.facts,
    Cert.Pre_within_clip_KernelIdeal.Gen.facts, Cert.Pre_within_clip_ReferenceIdeal.Gen.facts,
    frame_kernel, frame_ideal, fun m ρ _ => frame_ideal m ρ trivial, frame_reference, fun m ρ _ => frame_reference m ρ trivial,
    frame_unclipped, trivial, value_reference, value_unclipped⟩

end Cert.Proof

end
